-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S16x128 Cert.KernelIdeal.S8x128
  ∧ IdealRules.bf16_pack.Statement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x1152 : Shape := ⟨3, ![8, 4096, 1152]⟩
abbrev S884736 : Shape := ⟨1, ![884736]⟩
abbrev S864 : Shape := ⟨1, ![864]⟩
abbrev S6912x128 : Shape := ⟨2, ![6912, 128]⟩
abbrev S32768x1152 : Shape := ⟨2, ![32768, 1152]⟩
abbrev S32768x1536 : Shape := ⟨2, ![32768, 1536]⟩
abbrev S1024x1152 : Shape := ⟨2, ![1024, 1152]⟩
abbrev S1024x1536 : Shape := ⟨2, ![1024, 1536]⟩
abbrev S1152x1536 : Shape := ⟨2, ![1152, 1536]⟩
abbrev S1728x128 : Shape := ⟨2, ![1728, 128]⟩
abbrev S8x128 : Shape := ⟨2, ![8, 128]⟩
abbrev S128 : Shape := ⟨1, ![128]⟩
abbrev S1x128 : Shape := ⟨2, ![1, 128]⟩
abbrev S96 : Shape := ⟨1, ![96]⟩
abbrev S32 : Shape := ⟨1, ![32]⟩
abbrev S8x128x1 : Shape := ⟨3, ![8, 128, 1]⟩
abbrev S16x128 : Shape := ⟨2, ![16, 128]⟩

abbrev nBuf : Space → Nat
  | .hbm => 6
  | .vmem => 8
  | .smem => 0
  | _ => 0

abbrev bufTy : (tb : Table) → Fin (tcTables nBuf tb) → BufTy
  | .hbm, ⟨0, _⟩ => ⟨S8x4096x1152, .bf16⟩
  | .hbm, ⟨1, _⟩ => ⟨S884736, .i8⟩
  | .hbm, ⟨2, _⟩ => ⟨S864, .f32⟩
  | .hbm, ⟨3, _⟩ => ⟨S6912x128, .i8⟩
  | .hbm, ⟨4, _⟩ => ⟨S32768x1152, .bf16⟩
  | .hbm, ⟨5, _⟩ => ⟨S32768x1536, .bf16⟩
  | .local _ .vmem, ⟨0, _⟩ => ⟨S6912x128, .i8⟩
  | .local _ .vmem, ⟨1, _⟩ => ⟨S864, .f32⟩
  | .local _ .vmem, ⟨2, _⟩ => ⟨S1024x1152, .bf16⟩
  | .local _ .vmem, ⟨3, _⟩ => ⟨S1024x1152, .bf16⟩
  | .local _ .vmem, ⟨4, _⟩ => ⟨S1024x1536, .bf16⟩
  | .local _ .vmem, ⟨5, _⟩ => ⟨S1024x1536, .bf16⟩
  | .local _ .vmem, ⟨6, _⟩ => ⟨S1152x1536, .bf16⟩
  | .local _ .vmem, ⟨7, _⟩ => ⟨S1728x128, .i32⟩
  | _, _ => ⟨S8x4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6912x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S8x4096x1152 : Shape := ⟨3, ![8, 4096, 1152]⟩
abbrev S884736 : Shape := ⟨1, ![884736]⟩
abbrev S864 : Shape := ⟨1, ![864]⟩
abbrev S_ : Shape := ⟨0, ![]⟩
abbrev S864x1024 : Shape := ⟨2, ![864, 1024]⟩
abbrev S864x1 : Shape := ⟨2, ![864, 1]⟩
abbrev S1152x768 : Shape := ⟨2, ![1152, 768]⟩
abbrev S8x4096x768 : Shape := ⟨3, ![8, 4096, 768]⟩
abbrev S8x4096x768x1 : Shape := ⟨4, ![8, 4096, 768, 1]⟩
abbrev S8x4096x768x2 : Shape := ⟨4, ![8, 4096, 768, 2]⟩
abbrev S32768x1536 : Shape := ⟨2, ![32768, 1536]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1152, .bf16⟩
  | .hbm, ⟨1, _⟩ => ⟨S884736, .i8⟩
  | .hbm, ⟨2, _⟩ => ⟨S864, .f32⟩
  | .hbm, ⟨3, _⟩ => ⟨S884736, .i32⟩
  | .hbm, ⟨4, _⟩ => ⟨S_, .i32⟩
  | .hbm, ⟨5, _⟩ => ⟨S884736, .i32⟩
  | .hbm, ⟨6, _⟩ => ⟨S884736, .i32⟩
  | .hbm, ⟨7, _⟩ => ⟨S_, .i32⟩
  | .hbm, ⟨8, _⟩ => ⟨S884736, .i32⟩
  | .hbm, ⟨9, _⟩ => ⟨S884736, .i32⟩
  | .hbm, ⟨10, _⟩ => ⟨S_, .i32⟩
  | .hbm, ⟨11, _⟩ => ⟨S884736, .i32⟩
  | .hbm, ⟨12, _⟩ => ⟨S884736, .i1⟩
  | .hbm, ⟨13, _⟩ => ⟨S884736, .i32⟩
  | .hbm, ⟨14, _⟩ => ⟨S_, .i32⟩
  | .hbm, ⟨15, _⟩ => ⟨S884736, .i32⟩
  | .hbm, ⟨16, _⟩ => ⟨S884736, .i32⟩
  | .hbm, ⟨17, _⟩ => ⟨S884736, .i32⟩
  | .hbm, ⟨18, _⟩ => ⟨S_, .i32⟩
  | .hbm, ⟨19, _⟩ => ⟨S884736, .i32⟩
  | .hbm, ⟨20, _⟩ => ⟨S884736, .i1⟩
  | .hbm, ⟨21, _⟩ => ⟨S884736, .i32⟩
  | .hbm, ⟨22, _⟩ => ⟨S_, .i32⟩
  | .hbm, ⟨23, _⟩ => ⟨S884736, .i32⟩
  | .hbm, ⟨24, _⟩ => ⟨S884736, .i32⟩
  | .hbm, ⟨25, _⟩ => ⟨S884736, .i32⟩
  | .hbm, ⟨26, _⟩ => ⟨S864, .bf16⟩
  | .hbm, ⟨27, _⟩ => ⟨S884736, .bf16⟩
  | .hbm, ⟨28, _⟩ => ⟨S864x1024, .bf16⟩
  | .hbm, ⟨29, _⟩ => ⟨S864x1, .bf16⟩
  | .hbm, ⟨30, _⟩ => ⟨S864x1024, .bf16⟩
  | .hbm, ⟨31, _⟩ => ⟨S864x1024, .bf16⟩
  | .hbm, ⟨32, _⟩ => ⟨S1152x768, .bf16⟩
  | .hbm, ⟨33, _⟩ => ⟨S8x4096x768, .f32⟩
  | .hbm, ⟨34, _⟩ => ⟨S884736, .bf16⟩
  | .hbm, ⟨35, _⟩ => ⟨S864x1024, .bf16⟩
  | .hbm, ⟨36, _⟩ => ⟨S864x1, .bf16⟩
  | .hbm, ⟨37, _⟩ => ⟨S864x1024, .bf16⟩
  | .hbm, ⟨38, _⟩ => ⟨S864x1024, .bf16⟩
  | .hbm, ⟨39, _⟩ => ⟨S1152x768, .bf16⟩
  | .hbm, ⟨40, _⟩ => ⟨S8x4096x768, .f32⟩
  | .hbm, ⟨41, _⟩ => ⟨S8x4096x768x1, .f32⟩
  | .hbm, ⟨42, _⟩ => ⟨S8x4096x768x1, .f32⟩
  | .hbm, ⟨43, _⟩ => ⟨S8x4096x768x2, .f32⟩
  | .hbm, ⟨44, _⟩ => ⟨S32768x1536, .f32⟩
  | .hbm, ⟨45, _⟩ => ⟨S32768x1536, .bf16⟩
  | _, _ => ⟨S8x4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.BitsStruct.lean ====
/- The kernel's body with its unrolled loops written as loops.

   The printed body is straight-line text: 72 groups of 16 rows, each group three pairs of
   512 columns, each pair two halves of 128 code lanes, each half two tiles (the low and the
   high nibbles). Here the same statements are one definition per level, with the group, the
   pair and the half as parameters, in the same order and with the same operands.
   `cc0_eq` says that the two texts are the same program. -/
module

public import proofs.«01_k».proof.Proof.Gen.Kernel.Frame
public import Idealize.ShloMosaic.Lib.Pipeline.Regions

@[expose] public section

set_option maxRecDepth 16384

noncomputable section

namespace Cert.Kernel.Dequant

open Idealize.ShloMosaic Idealize.SL.Sem
open Cert.Kernel Cert.Kernel.Gen

variable {F : FTy → Type} [BitOps F]

/-! ## The pure operations -/

/-- The lane number of each element. -/
def lanes : IVec S8x128 32 := iota .tc S8x128 32 [1] iota_S8x128_d1_w32
/-- The sublane number of each element. -/
def sublanes : IVec S8x128 32 := iota .tc S8x128 32 [0] iota_S8x128_d0_w32
/-- Four times the lane's parity: the shift that brings the lane's nibble down. -/
def nibbleShift : IVec S8x128 32 := muli (andi lanes (broadcast S8x128 1#32)) (broadcast S8x128 4#32)
/-- The lane that holds this lane's code, in the half starting at lane `h`. -/
def halfLane (h : BitVec 32) : IVec S8x128 32 := addi (shrsi lanes (broadcast S8x128 1#32)) (broadcast S8x128 h)
/-- `⌊3 s / 2⌋` at sublane `s`. -/
def patA : IVec S8x128 32 := shrsi (muli (broadcast S8x128 3#32) sublanes) (broadcast S8x128 1#32)
/-- `⌊(3 s + 1) / 2⌋` at sublane `s`. -/
def patB : IVec S8x128 32 := shrsi (addi (muli (broadcast S8x128 3#32) sublanes) (broadcast S8x128 1#32)) (broadcast S8x128 1#32)
/-- `⌊3 s / 2⌋ + 1` at sublane `s`. -/
def patC : IVec S8x128 32 := addi patA (broadcast S8x128 1#32)

/-- A gather's index operand: a negative index counts from the end. -/
def gatherIdx (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- The scales of 128 consecutive blocks, one per lane, rounded to bf16 and widened back. -/
def scaleRow (v : Vec F S128 .f32) : FVec F S8x128 .f32 :=
  extf .f32 (truncf .bf16 (broadcastTo S8x128 (shapeCast S1x128 (shapeCast S1x128 v shapeCasts_S128_S1x128)
    shapeCasts_S1x128_S1x128) broadcasts_S1x128_S8x128) bitsLt_bf16_f32) bitsLt_bf16_f32
/-- The last 96 scales, padded with zeros. -/
def padScales (v : Vec F S96 .f32) : Vec F S128 .f32 :=
  concatenate S128 0 [⟨S96, v⟩, ⟨S32, broadcast S32 (Scalar.ofBits .f32 0x00000000#32)⟩] concatenates_S96_S32_S128_d0

/-- The `n`-th of the seven rows. -/
def pickRow {α : Type} (r0 r1 r2 r3 r4 r5 r6 : α) : Nat → α
  | 0 => r0 | 1 => r1 | 2 => r2 | 3 => r3 | 4 => r4 | 5 => r5 | _ => r6

/-- The row of scales that group `g` gathers from: its own row, or, when the group's scales
    cross from one row to the next, the two rows joined at lane 64. -/
def groupRow (rows : Nat → FVec F S8x128 .f32) (g : Nat) : FVec F S8x128 .f32 :=
  cond (Nat.beq (12 * g / 128) ((12 * g + 11) / 128)) (rows (12 * g / 128))
    (select (cmpi .slt lanes (broadcast S8x128 64#32)) (rows ((12 * g + 11) / 128)) (rows (12 * g / 128)))

/-- The scales of group `g` in the pattern `pat`, one per sublane. -/
def groupScale (rows : Nat → FVec F S8x128 .f32) (g : Nat) (pat : IVec S8x128 32) : FVec F S8x128 .f32 :=
  dynamicGather 1 (groupRow rows g)
    (gatherIdx (andi (addi pat (broadcast S8x128 (BitVec.ofNat 32 (12 * g)))) (broadcast S8x128 127#32)))

/-- Two sublane patterns of scales as the even and the odd rows of a tile: the bits of the one moved down to the
    low halves of the words, those of the other kept in the high halves. -/
def packScale (a b : FVec F S8x128 .f32) : FVec F S16x128 .bf16 :=
  bitcastToFloat .bf16 (bitcast S16x128 16 (ori (shrui (bitcastToInt a) (broadcast S8x128 16#32)) (andi (bitcastToInt b) (broadcast S8x128 4294901760#32)))
    bitcasts_S8x128_w32_S16x128_w16)

/-- The first pair's words, from the group's three word rows. -/
def word0 (c0 c1 : IVec S8x128 32) : IVec S8x128 32 := ori (andi c0 (broadcast S8x128 65535#32)) (andi c1 (broadcast S8x128 4294901760#32))
/-- The second pair's words. -/
def word1 (c0 c2 : IVec S8x128 32) : IVec S8x128 32 := ori (shrui c0 (broadcast S8x128 16#32)) (shli c2 (broadcast S8x128 16#32))

/-- A half's nibbles: each lane's code brought down by the lane's nibble shift. -/
def nibbles (w idx : IVec S8x128 32) : IVec S8x128 32 :=
  shrui (dynamicGather 1 (xori w (broadcast S8x128 2290649224#32)) (gatherIdx idx)) nibbleShift

/-- A tile of weights: the nibbles as biased floats, the bias removed, times the scales. -/
def tile (n : IVec S8x128 32) (scale : FVec F S16x128 .bf16) : FVec F S16x128 .bf16 :=
  shapeCast S16x128 (mulf (subf
    (bitcastToFloat .bf16 (bitcast S16x128 16 (ori (andi n (broadcast S8x128 983055#32)) (broadcast S8x128 1124090624#32)) bitcasts_S8x128_w32_S16x128_w16))
    (broadcast S16x128 (Scalar.ofBits .bf16 0x4308#16))) scale) shapeCasts_S16x128_S16x128

/-! ## The rectangles -/

theorem inb_tile {r c : Nat} (hr : r ≤ 1136) (hc : c ≤ 1408) : ∀ a, (![r, c] : Fin 2 → Nat) a + S16x128.size a ≤ S1152x1536.size a := by
  intro a; fin_cases a
  · show r + 16 ≤ 1152; omega
  · show c + 128 ≤ 1536; omega

/-- The tile whose first row is `r` and whose first column is `c`. -/
def tileRect (r c : Nat) (hr : r ≤ 1136) (hc : c ≤ 1408) : Rect S1152x1536 := Rect.unit (s := S1152x1536) ![r, c] S16x128.size (inb_tile hr hc)

theorem packed_tile {g c : Nat} (hr : 16 * g ≤ 1136) (hc : c ≤ 1408) : (tileRect (16 * g) c hr hc).PackedRows (EltTy.packing .bf16) :=
  .inr ⟨le_rfl, rfl, .inl ⟨⟨8 * g, show 16 * g = 2 * (8 * g) by omega⟩, ⟨8, rfl⟩⟩⟩

theorem inb_words {r : Nat} (hr : r ≤ 1706) : ∀ a, S8x128.size a = 0 ∨ (![r, 0] : Fin 2 → Nat) a + (![3, 1] : Fin 2 → Nat) a * (S8x128.size a - 1) < S1728x128.size a := by
  intro a; fin_cases a
  · right; show r + 3 * (8 - 1) < 1728; omega
  · right; show 0 + 1 * (128 - 1) < 128; omega

/-- Every third word row from row `r`. -/
def wordRect (r : Nat) (hr : r ≤ 1706) : LoadRect S1728x128 := ⟨![r, 0], S8x128.size, ![3, 1], inb_words hr⟩

/-! ## The program -/

/-- Programs of the kernel's body. -/
abbrev Body (F : FTy → Type) : Type 1 := Prog (TpuEff nD τ sig (Elt F) Λ₀ .tc) PUnit

section
variable (arg1 : Memref sig .tc .vmem S6912x128 .i8) (arg2 : Memref sig .tc .vmem S864 .f32)
  (arg5 : Memref sig .tc .vmem S1152x1536 .bf16) (harg5 : arg5.IsWhole) (arg6 : Memref sig .tc .vmem S1728x128 .i32)

/-- One tile's load (its result unused) and store. -/
def storeTile (g c : Nat) (hr : 16 * g ≤ 1136) (hc : c ≤ 1408) (v : FVec F S16x128 .bf16) (k : Body F) : Body F :=
  .op (.load arg5 (tileRect (16 * g) c hr hc).toLoadRect (View.loadsAt_vmem h_S16x128)) fun _ =>
  .op (.store arg5 (tileRect (16 * g) c hr hc) v Finset.univ
    (View.stores_vmem h_S16x128 (harg5.storeExact_slice rfl _ (packed_tile hr hc)) (fun _ => rfl)) (.inl rfl)) fun _ => k

/-- One half's two tiles: the low nibbles, then the high nibbles 256 columns further. -/
def half (g c : Nat) (hr : 16 * g ≤ 1136) (hc : c + 256 ≤ 1408) (n : IVec S8x128 32) (scale : FVec F S16x128 .bf16) (k : Body F) : Body F :=
  storeTile arg5 harg5 g c hr (by omega) (tile n scale)
    (storeTile arg5 harg5 g (c + 256) hr hc (tile (shrui n (broadcast S8x128 8#32)) scale) k)

/-- One pair's two halves. -/
def pair (g p : Nat) (hr : 16 * g ≤ 1136) (hp : p < 3) (w : IVec S8x128 32) (scale : FVec F S16x128 .bf16) (k : Body F) : Body F :=
  half arg5 harg5 g (512 * p) hr (by omega) (nibbles w (halfLane 0#32)) scale
    (half arg5 harg5 g (512 * p + 128) hr (by omega) (nibbles w (halfLane 64#32)) scale k)

/-- One group: its three word rows, then its three pairs. -/
def group (rows : Nat → FVec F S8x128 .f32) (g : Nat) (hg : g < 72) (k : Body F) : Body F :=
  .op (.load arg6 (wordRect (24 * g) (by omega)) (View.loadsAt_vmem h_S8x128)) fun (c0 : Vec F S8x128 .i32) =>
  .op (.load arg6 (wordRect (24 * g + 1) (by omega)) (View.loadsAt_vmem h_S8x128)) fun (c1 : Vec F S8x128 .i32) =>
  .op (.load arg6 (wordRect (24 * g + 2) (by omega)) (View.loadsAt_vmem h_S8x128)) fun (c2 : Vec F S8x128 .i32) =>
  pair arg5 harg5 g 0 (by omega) (by omega) (word0 c0 c1) (packScale (groupScale rows g patA) (groupScale rows g patB))
  (pair arg5 harg5 g 1 (by omega) (by omega) (word1 c0 c2) (packScale (groupScale rows g patA) (groupScale rows g patC))
  (pair arg5 harg5 g 2 (by omega) (by omega) (word0 c1 c2) (packScale (groupScale rows g patB) (groupScale rows g patC)) k))

/-- The first `n` groups in order, then `k`. -/
def groups (rows : Nat → FVec F S8x128 .f32) : (n : Nat) → n ≤ 72 → Body F → Body F
  | 0, _, k => k
  | n + 1, h, k => groups rows n (by omega) (group arg5 harg5 arg6 rows n h k)

/-- The load of 128 scales. -/
def loadScales (o : Nat) (ho : ∀ a, (![o] : Fin 1 → Nat) a + S128.size a ≤ S864.size a) (k : FVec F S8x128 .f32 → Body F) : Body F :=
  .op (.load arg2 (Rect.unit (s := S864) ![o] S128.size ho).toLoadRect (View.loadsAt_vmem h_S128)) fun (v : Vec F S128 .f32) => k (scaleRow v)

/-- The whole dequantization, then `k`. -/
def dequant (k : Body F) : Body F :=
  .op (.load arg1 (Rect.unit (s := S6912x128) ![0, 0] S6912x128.size inb_S6912x128_S6912x128_0_0).toLoadRect (View.loadsAt_vmem h_S6912x128)) fun (v9 : Vec F S6912x128 .i8) =>
  .op (.load arg6 (Rect.unit (s := S1728x128) ![0, 0] S1728x128.size inb_S1728x128_S1728x128_0_0).toLoadRect (View.loadsAt_vmem h_S1728x128)) fun _ =>
  .op (.store arg6 (Rect.unit (s := S1728x128) ![0, 0] S1728x128.size inb_S1728x128_S1728x128_0_0)
    (shapeCast S1728x128 (bitcast S1728x128 32 (shapeCast S6912x128 v9 shapeCasts_S6912x128_S6912x128) bitcasts_S6912x128_w8_S1728x128_w32) shapeCasts_S1728x128_S1728x128)
    Finset.univ (View.stores_vmem_bits_univ h_S1728x128 rfl) (.inl rfl)) fun _ =>
  loadScales arg2 0 inb_S864_S128_0 fun r0 =>
  loadScales arg2 128 inb_S864_S128_128 fun r1 =>
  loadScales arg2 256 inb_S864_S128_256 fun r2 =>
  loadScales arg2 384 inb_S864_S128_384 fun r3 =>
  loadScales arg2 512 inb_S864_S128_512 fun r4 =>
  loadScales arg2 640 inb_S864_S128_640 fun r5 =>
  .op (.load arg2 (Rect.unit (s := S864) ![768] S96.size inb_S864_S96_768).toLoadRect (View.loadsAt_vmem h_S96)) fun (v77 : Vec F S96 .f32) =>
  groups arg5 harg5 arg6 (pickRow r0 r1 r2 r3 r4 r5 (scaleRow (padScales v77))) 72 le_rfl k

/-- The part of the body at every grid point: the block's product with the weights. -/
def product (arg3 : Memref sig .tc .vmem S1024x1152 .bf16) (arg4 : Memref sig .tc .vmem S1024x1536 .bf16) (harg4 : arg4.IsWhole) : Body F :=
  .op (.load arg3 (Rect.unit (s := S1024x1152) ![0, 0] S1024x1152.size inb_S1024x1152_S1024x1152_0_0).toLoadRect (View.loadsAt_vmem h_S1024x1152)) fun (x : Vec F S1024x1152 .bf16) =>
  .op (.load arg5 (Rect.unit (s := S1152x1536) ![0, 0] S1152x1536.size inb_S1152x1536_S1152x1536_0_0).toLoadRect (View.loadsAt_vmem h_S1152x1536)) fun (w : Vec F S1152x1536 .bf16) =>
  .op (.load arg4 (Rect.unit (s := S1024x1536) ![0, 0] S1024x1536.size inb_S1024x1536_S1024x1536_0_0).toLoadRect (View.loadsAt_vmem h_S1024x1536)) fun _ =>
  .op (.store arg4 (Rect.unit (s := S1024x1536) ![0, 0] S1024x1536.size inb_S1024x1536_S1024x1536_0_0)
    (truncf .bf16 (matmul dot_S1024x1152_S1152x1536_S1024x1536_1_0_0_1_n_n none (shapeCast S1024x1152 x shapeCasts_S1024x1152_S1024x1152) w
      (constant S1024x1536 .f32 0x00000000#32)) bitsLt_bf16_f32)
    Finset.univ (View.stores_vmem h_S1024x1536 (harg4.storeExact_slice rfl _ packedbf16_S1024x1536_S1024x1536_0_0) (fun _ => rfl)) (.inl rfl)) fun _ => .ret ⟨⟩

end

end Cert.Kernel.Dequant

end
-- ==== Proof.BitsStructEq.lean ====
/- The printed body is the body written with loops. -/
module

public import proofs.«01_k».proof.Proof.BitsStruct

@[expose] public section

set_option maxRecDepth 16384

noncomputable section

namespace Cert.Kernel.Dequant

open Idealize.ShloMosaic Idealize.SL.Sem
open Cert.Kernel Cert.Kernel.Gen

variable {F : FTy → Type} [BitOps F]

/-- The body: the dequantization at the first grid point only, then the block's product. -/
theorem cc0_eq (i : grid0.Coords) (arg1 : Memref sig .tc .vmem S6912x128 .i8) (harg1 : arg1.IsWhole) (arg2 : Memref sig .tc .vmem S864 .f32) (harg2 : arg2.IsWhole)
    (arg3 : Memref sig .tc .vmem S1024x1152 .bf16) (harg3 : arg3.IsWhole) (arg4 : Memref sig .tc .vmem S1024x1536 .bf16) (harg4 : arg4.IsWhole)
    (arg5 : Memref sig .tc .vmem S1152x1536 .bf16) (harg5 : arg5.IsWhole) (arg6 : Memref sig .tc .vmem S1728x128 .i32) (harg6 : arg6.IsWhole) :
    cc0_int4_linear (F := F) i arg1 harg1 arg2 harg2 arg3 harg3 arg4 harg4 arg5 harg5 arg6 harg6
      = (do
          if h : Scalar.cmpi .ne (Scalar.extui (Scalar.cmpi .eq (BitVec.ofNat 32 (i 0).val) 0#32) : BitVec 32) 0#32 = 1#1 then
            dequant arg1 arg2 arg5 harg5 arg6 (pure ⟨⟩)
          else pure ⟨⟩
          product arg5 arg3 arg4 harg4) := by
  chain_rfl

end Cert.Kernel.Dequant

end
-- ==== Proof.BitsRun.lean ====
/- What the structured body computes: the weights a grid point writes into the scratch, and
   the triples that say so, one per level of the loop nest. -/
module

public import proofs.«01_k».proof.Proof.BitsStruct
public import Idealize.ShloMosaic.Lib.ValueIdxCore

@[expose] public section

set_option maxRecDepth 16384

noncomputable section

namespace Cert.Kernel.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix2 ix1 eq_ix2 eq_ix1 idx2_lt0 idx2_lt1)

variable {F : FTy → Type} [BitOps F]

local notation "𝕄" => MT nD τ sig Unit (Elt F) ℕ (UR sig nD τ) ℕ

/-! ## The weights -/

/-- Every third word row from row `r`. -/
def wordRow (X : Vec F S1728x128 .i32) (r : Nat) : IVec S8x128 32 :=
  fun j => X (ix2 ⟨min (r + 3 * (j 0).val) 1727, by omega⟩ (j 1))

/-- The words of pair `p` of group `g`. -/
def pairWord (X : Vec F S1728x128 .i32) (g : Nat) : Nat → IVec S8x128 32
  | 0 => word0 (wordRow X (24 * g)) (wordRow X (24 * g + 1))
  | 1 => word1 (wordRow X (24 * g)) (wordRow X (24 * g + 2))
  | _ => word0 (wordRow X (24 * g + 1)) (wordRow X (24 * g + 2))

/-- The scales of pair `p` of group `g`. -/
def pairScale (rows : Nat → FVec F S8x128 .f32) (g : Nat) : Nat → FVec F S16x128 .bf16
  | 0 => packScale (groupScale rows g patA) (groupScale rows g patB)
  | 1 => packScale (groupScale rows g patA) (groupScale rows g patC)
  | _ => packScale (groupScale rows g patB) (groupScale rows g patC)

/-- The nibbles of half `h` of the words `w`. -/
def halfNibbles (w : IVec S8x128 32) : Nat → IVec S8x128 32
  | 0 => nibbles w (halfLane 0#32)
  | _ => nibbles w (halfLane 64#32)

/-- The low (`o = 0`) or the high nibbles' tile. -/
def sideTile (n : IVec S8x128 32) (scale : FVec F S16x128 .bf16) : Nat → FVec F S16x128 .bf16
  | 0 => tile n scale
  | _ => tile (shrui n (broadcast S8x128 8#32)) scale

/-- The tile of group `g`, pair `p`, half `h`, side `o`. -/
def tileAt (X : Vec F S1728x128 .i32) (rows : Nat → FVec F S8x128 .f32) (g p h o : Nat) : FVec F S16x128 .bf16 :=
  sideTile (halfNibbles (pairWord X g p) h) (pairScale rows g p) o

/-- The weights, tile by tile: 16 rows of a group, 512 columns of a pair, 256 of a side, 128 of a half. -/
def weights (X : Vec F S1728x128 .i32) (rows : Nat → FVec F S8x128 .f32) : Vec F S1152x1536 .bf16 := fun i =>
  tileAt X rows ((i 0).val / 16) ((i 1).val / 512) ((i 1).val / 128 % 2) ((i 1).val / 256 % 2)
    (ix2 ⟨(i 0).val % 16, Nat.mod_lt _ (by decide)⟩ ⟨(i 1).val % 128, Nat.mod_lt _ (by decide)⟩)

/-- The weights inside a tile are the tile. -/
theorem weights_tile (X : Vec F S1728x128 .i32) (rows : Nat → FVec F S8x128 .f32) (g p h o c : Nat) (hr : 16 * g ≤ 1136) (hc : c ≤ 1408)
    (hh : h < 2) (ho : o < 2) (e : c = 512 * p + 256 * o + 128 * h) (x : S16x128.Idx) :
    tileAt X rows g p h o x = weights X rows ((tileRect (16 * g) c hr hc).emb x) := by
  have h0 : (((tileRect (16 * g) c hr hc).emb x) 0).val = 16 * g + 1 * (x 0).val := rfl
  have h1 : (((tileRect (16 * g) c hr hc).emb x) 1).val = c + 1 * (x 1).val := rfl
  have l0 : (x 0).val < 16 := (x 0).isLt
  have l1 : (x 1).val < 128 := (x 1).isLt
  unfold weights
  have e1 : (((tileRect (16 * g) c hr hc).emb x) 0).val / 16 = g := by rw [h0]; omega
  have e2 : (((tileRect (16 * g) c hr hc).emb x) 1).val / 512 = p := by rw [h1]; omega
  have e3 : (((tileRect (16 * g) c hr hc).emb x) 1).val / 128 % 2 = h := by rw [h1]; omega
  have e4 : (((tileRect (16 * g) c hr hc).emb x) 1).val / 256 % 2 = o := by rw [h1]; omega
  rw [e1, e2, e3, e4]
  congr 1
  funext a
  match a with
  | ⟨0, _⟩ => exact Fin.ext (by show (x 0).val = (((tileRect (16 * g) c hr hc).emb x) 0).val % 16; rw [h0]; omega)
  | ⟨1, _⟩ => exact Fin.ext (by show (x 1).val = (((tileRect (16 * g) c hr hc).emb x) 1).val % 128; rw [h1]; omega)

/-! ## The triples -/

section
variable (c : Dev nD)

/-- A load of an owned memref reads its contents under the rectangle's coordinates. -/
theorem wp_load_owned (E : Set ℕ) (Q : PUnit → sProp 𝕄) {cs : CoreSpace} {s : Shape} {e : EltTy} (m : Memref sig .tc cs s e) (r : LoadRect s) (hl : m.view.LoadsAt r)
    (X : s.Idx → Elt F e) (k : (r.shape.Idx → Elt F e) → Body F) :
    owns (c : Thread nD τ) m fullShare X
      ⊢ iprop((owns (c : Thread nD τ) m fullShare X -∗ wp frame (wpE (defs₀ (F := F)) Variants.none c none) E (k fun x => X (r.idx x)) Q)
        -∗ wp frame (wpE (defs₀ (F := F)) Variants.none c none) E (Prog.op (.load m r hl) k) Q) := by
  unfold owns
  iintro ⟨%f, %hf, H⟩ Hk
  iapply (wp_load Variants.none (c : Thread nD τ) none E (m := m) (r := r) (hl := hl) (k := k) (Q := Q) (q := fullShare) (f := f)
    (S := m.view.set) (m.view.setOn_subset_set _)) $$ H
  iintro H
  have hr : View.readAt (Elt F) m.view r f = fun x => X (r.idx x) := by subst hf; rfl
  rw [hr]
  iapply Hk
  iexists f
  isplitr
  · ipureintro; exact hf
  iexact H

/-- The scratch agrees with `W` on the elements `S`. -/
def Part (arg5 : Memref sig .tc .vmem S1152x1536 .bf16) (W : Vec F S1152x1536 .bf16) (S : S1152x1536.Idx → Prop) : sProp 𝕄 :=
  iprop(∃ X, ⌜∀ i, S i → X i = W i⌝ ∗ owns (c : Thread nD τ) arg5 fullShare X)

/-- Agreement on fewer elements. -/
theorem Part.mono {arg5 : Memref sig .tc .vmem S1152x1536 .bf16} {W : Vec F S1152x1536 .bf16} {S S' : S1152x1536.Idx → Prop} (h : ∀ i, S' i → S i) :
    Part c arg5 W S ⊢ Part c arg5 W S' := by
  unfold Part
  iintro ⟨%X, %hX, H⟩
  iexists X
  isplitr
  · ipureintro; exact fun i hi => hX i (h i hi)
  iexact H

/-- Element `i` is in the tile of rows `16 g …` and columns `c …`. -/
def InTile (g c : Nat) (i : S1152x1536.Idx) : Prop := 16 * g ≤ (i 0).val ∧ (i 0).val < 16 * g + 16 ∧ c ≤ (i 1).val ∧ (i 1).val < c + 128

theorem exists_of_inTile {g c : Nat} {hr : 16 * g ≤ 1136} {hc : c ≤ 1408} {i : S1152x1536.Idx} (h : InTile g c i) :
    ∃ x, (tileRect (16 * g) c hr hc).emb x = i := by
  obtain ⟨a0, a1, b0, b1⟩ := h
  refine ⟨ix2 ⟨(i 0).val - 16 * g, by omega⟩ ⟨(i 1).val - c, by omega⟩, ?_⟩
  funext a
  match a with
  | ⟨0, _⟩ => exact Fin.ext (by show 16 * g + 1 * ((i 0).val - 16 * g) = (i 0).val; omega)
  | ⟨1, _⟩ => exact Fin.ext (by show c + 1 * ((i 1).val - c) = (i 1).val; omega)

variable (arg5 : Memref sig .tc .vmem S1152x1536 .bf16) (harg5 : arg5.IsWhole) (W : Vec F S1152x1536 .bf16)

/-- A tile's store adds the tile to what agrees. -/
theorem wp_storeTile (E : Set ℕ) (Q : PUnit → sProp 𝕄) (S : S1152x1536.Idx → Prop) (g co : Nat) (hr : 16 * g ≤ 1136) (hc : co ≤ 1408) (v : FVec F S16x128 .bf16)
    (hv : ∀ x, v x = W ((tileRect (16 * g) co hr hc).emb x)) (k : Body F) :
    Part c arg5 W S
      ⊢ iprop((Part c arg5 W (fun i => S i ∨ InTile g co i) -∗ wp frame (wpE (defs₀ (F := F)) Variants.none c none) E k Q)
        -∗ wp frame (wpE (defs₀ (F := F)) Variants.none c none) E (storeTile arg5 harg5 g co hr hc v k) Q) := by
  unfold Part storeTile
  iintro ⟨%X, %hX, H⟩ Hk
  iapply (wp_load_owned c E Q arg5 _ _ X) $$ H
  unfold owns
  iintro ⟨%f, %hf, H⟩
  iapply (wp_store Variants.none (c : Thread nD τ) none E (m := arg5) (r := tileRect (16 * g) co hr hc) (w := v) (Mk := Finset.univ)
    (Q := Q) (f := f) (S := arg5.view.set) (arg5.view.set_slice_subset _)) $$ H
  iintro H
  iapply Hk
  iexists (arg5.view.read (Elt F) ((arg5.access (tileRect (16 * g) co hr hc)).write (Elt F) f v Finset.univ))
  isplitr
  · ipureintro
    intro i hi
    by_cases hm : i ∈ Finset.univ.map (tileRect (16 * g) co hr hc).emb
    · obtain ⟨x, -, rfl⟩ := Finset.mem_map.1 hm
      exact (View.read_slice_write_emb (v := arg5.view) (tileRect (16 * g) co hr hc) f v (Finset.mem_univ x)).trans (hv x)
    · rcases hi with hi | hi
      · exact (View.read_slice_write_of_not_mem (v := arg5.view) (tileRect (16 * g) co hr hc) f v _ hm).trans
          ((congrFun hf i).trans (hX i hi))
      · obtain ⟨x, rfl⟩ := exists_of_inTile (hr := hr) (hc := hc) hi
        exact absurd (Finset.mem_map_of_mem _ (Finset.mem_univ x)) hm
  iexists _
  isplitr
  swap
  · iexact H
  ipureintro; rfl

/-- A half's two tiles. -/
theorem wp_half (E : Set ℕ) (Q : PUnit → sProp 𝕄) (S : S1152x1536.Idx → Prop) (g co : Nat) (hr : 16 * g ≤ 1136) (hc : co + 256 ≤ 1408) (n : IVec S8x128 32) (scale : FVec F S16x128 .bf16)
    (h0 : ∀ x, sideTile n scale 0 x = W ((tileRect (16 * g) co hr (by omega)).emb x))
    (h1 : ∀ x, sideTile n scale 1 x = W ((tileRect (16 * g) (co + 256) hr hc).emb x)) (k : Body F) :
    Part c arg5 W S
      ⊢ iprop((Part c arg5 W (fun i => (S i ∨ InTile g co i) ∨ InTile g (co + 256) i) -∗ wp frame (wpE (defs₀ (F := F)) Variants.none c none) E k Q)
        -∗ wp frame (wpE (defs₀ (F := F)) Variants.none c none) E (half arg5 harg5 g co hr hc n scale k) Q) := by
  unfold half
  iintro H Hk
  iapply (wp_storeTile c arg5 harg5 W E Q S g co hr _ (tile n scale) h0) $$ H
  iintro H
  iapply (wp_storeTile c arg5 harg5 W E Q _ g (co + 256) hr hc (tile (shrui n (broadcast S8x128 8#32)) scale) h1) $$ H
  iexact Hk

variable (X6 : Vec F S1728x128 .i32) (rows : Nat → FVec F S8x128 .f32)

/-- The elements of the groups before `g`, and of group `g` the columns before `b`. -/
def Done (g b : Nat) (i : S1152x1536.Idx) : Prop := (i 0).val < 16 * g ∨ ((i 0).val < 16 * g + 16 ∧ (i 1).val < b)

/-- One pair: its 512 columns of the group are done. -/
theorem wp_pair (E : Set ℕ) (Q : PUnit → sProp 𝕄) (g p : Nat) (hr : 16 * g ≤ 1136) (hp : p < 3) (w : IVec S8x128 32) (scale : FVec F S16x128 .bf16)
    (hw : w = pairWord X6 g p) (hs : scale = pairScale rows g p) (k : Body F) :
    Part c arg5 (weights X6 rows) (Done g (512 * p))
      ⊢ iprop((Part c arg5 (weights X6 rows) (Done g (512 * (p + 1))) -∗ wp frame (wpE (defs₀ (F := F)) Variants.none c none) E k Q)
        -∗ wp frame (wpE (defs₀ (F := F)) Variants.none c none) E (pair arg5 harg5 g p hr hp w scale k) Q) := by
  subst hw hs
  unfold pair
  iintro H Hk
  iapply (wp_half c arg5 harg5 (weights X6 rows) E Q _ g (512 * p) hr _ (nibbles (pairWord X6 g p) (halfLane 0#32)) (pairScale rows g p)
    (weights_tile X6 rows g p 0 0 _ hr _ (by decide) (by decide) rfl)
    (weights_tile X6 rows g p 0 1 _ hr _ (by decide) (by decide) rfl)) $$ H
  iintro H
  iapply (wp_half c arg5 harg5 (weights X6 rows) E Q _ g (512 * p + 128) hr _ (nibbles (pairWord X6 g p) (halfLane 64#32)) (pairScale rows g p)
    (weights_tile X6 rows g p 1 0 _ hr _ (by decide) (by decide) rfl)
    (weights_tile X6 rows g p 1 1 _ hr _ (by decide) (by decide) (by omega))) $$ H
  iintro H
  iapply Hk
  iapply (Part.mono c (S' := Done g (512 * (p + 1))) ?_) $$ H
  intro i hi
  unfold Done at *
  unfold InTile
  omega

/-- A word row's load. -/
theorem wordRow_eq (r : Nat) (hr : r ≤ 1706) : (fun x => X6 ((wordRect r hr).idx x)) = wordRow X6 r := by
  funext j
  have l0 : (j 0).val < 8 := (j 0).isLt
  unfold wordRow
  congr 1
  funext a
  match a with
  | ⟨0, _⟩ => exact Fin.ext (by show r + 3 * (j 0).val = min (r + 3 * (j 0).val) 1727; omega)
  | ⟨1, _⟩ => exact Fin.ext (by show 0 + 1 * (j 1).val = (j 1).val; omega)

variable (arg6 : Memref sig .tc .vmem S1728x128 .i32)

/-- One group: its 16 rows are done. -/
theorem wp_group (E : Set ℕ) (Q : PUnit → sProp 𝕄) (g : Nat) (hg : g < 72) (k : Body F) :
    iprop(Part c arg5 (weights X6 rows) (Done g 0) ∗ owns (c : Thread nD τ) arg6 fullShare X6)
      ⊢ iprop(((Part c arg5 (weights X6 rows) (Done (g + 1) 0) ∗ owns (c : Thread nD τ) arg6 fullShare X6)
          -∗ wp frame (wpE (defs₀ (F := F)) Variants.none c none) E k Q)
        -∗ wp frame (wpE (defs₀ (F := F)) Variants.none c none) E (group arg5 harg5 arg6 rows g hg k) Q) := by
  unfold group
  iintro ⟨H, H6⟩ Hk
  iapply (wp_load_owned c E Q arg6 _ _ X6) $$ H6
  iintro H6
  iapply (wp_load_owned c E Q arg6 _ _ X6) $$ H6
  iintro H6
  iapply (wp_load_owned c E Q arg6 _ _ X6) $$ H6
  iintro H6
  iapply (wp_pair c arg5 harg5 X6 rows E Q g 0 (by omega) (by omega) _ _ (by rw [wordRow_eq, wordRow_eq]; rfl) rfl) $$ H
  iintro H
  iapply (wp_pair c arg5 harg5 X6 rows E Q g 1 (by omega) (by omega) _ _ (by rw [wordRow_eq, wordRow_eq]; rfl) rfl) $$ H
  iintro H
  iapply (wp_pair c arg5 harg5 X6 rows E Q g 2 (by omega) (by omega) _ _ (by rw [wordRow_eq, wordRow_eq]; rfl) rfl) $$ H
  iintro H
  iapply Hk
  isplitl [H]
  · iapply (Part.mono c (S' := Done (g + 1) 0) ?_) $$ H
    intro i hi
    have l1 : (i 1).val < 1536 := (i 1).isLt
    unfold Done at *
    omega
  iexact H6

/-- The first `n` groups. -/
theorem wp_groups (E : Set ℕ) (Q : PUnit → sProp 𝕄) : ∀ (n : Nat) (hn : n ≤ 72) (k : Body F),
    iprop(Part c arg5 (weights X6 rows) (Done 0 0) ∗ owns (c : Thread nD τ) arg6 fullShare X6)
      ⊢ iprop(((Part c arg5 (weights X6 rows) (Done n 0) ∗ owns (c : Thread nD τ) arg6 fullShare X6)
          -∗ wp frame (wpE (defs₀ (F := F)) Variants.none c none) E k Q)
        -∗ wp frame (wpE (defs₀ (F := F)) Variants.none c none) E (groups arg5 harg5 arg6 rows n hn k) Q)
  | 0, hn, k => by
    unfold groups
    iintro H Hk
    iapply Hk $$ H
  | n + 1, hn, k => by
    unfold groups
    iintro H Hk
    iapply (wp_groups E Q n (Nat.le_of_succ_le hn) (group arg5 harg5 arg6 rows n hn k)) $$ H
    iintro H
    iapply (wp_group c arg5 harg5 X6 rows arg6 E Q n hn k) $$ H
    iexact Hk

/-- A store of `w` under a rectangle that covers the memref leaves `Y`, where `w` is `Y` under the rectangle. -/
theorem wp_store_owned (E : Set ℕ) (Q : PUnit → sProp 𝕄) {cs : CoreSpace} {s : Shape} {e : EltTy} (m : Memref sig .tc cs s e) (r : Rect s)
    (w : r.shape.Idx → Elt F e) (hx : (m.access r).Stores Finset.univ) (hm : (Finset.univ : Finset r.shape.Idx) = Finset.univ ∨ ∀ a, r.stride a = 1)
    (X Y : s.Idx → Elt F e) (hY : ∀ x, w x = Y (r.emb x)) (hr : ∀ y, ∃ x, r.emb x = y) (k : PUnit → Body F) :
    owns (c : Thread nD τ) m fullShare X
      ⊢ iprop((owns (c : Thread nD τ) m fullShare Y -∗ wp frame (wpE (defs₀ (F := F)) Variants.none c none) E (k ⟨⟩) Q)
        -∗ wp frame (wpE (defs₀ (F := F)) Variants.none c none) E (Prog.op (.store m r w Finset.univ hx hm) k) Q) := by
  unfold owns
  iintro ⟨%f, %hf, H⟩ Hk
  iapply (wp_store Variants.none (c : Thread nD τ) none E (m := m) (r := r) (w := w) (Mk := Finset.univ) (hx := hx) (hm := hm) (k := k)
    (Q := Q) (f := f) (S := m.view.set) (m.view.set_slice_subset _)) $$ H
  iintro H
  iapply Hk
  iexists _
  isplitr
  swap
  · iexact H
  ipureintro
  funext y
  obtain ⟨x, rfl⟩ := hr y
  exact (View.read_slice_write_emb (v := m.view) r f w (Finset.mem_univ x)).trans (hY x)

/-- The whole rectangle of a rank-2 shape is the identity on indices. -/
theorem emb_whole2 {a b : Nat} (inb : ∀ d, (![0, 0] : Fin 2 → Nat) d + (⟨2, ![a, b]⟩ : Shape).size d ≤ (⟨2, ![a, b]⟩ : Shape).size d)
    (x : (⟨2, ![a, b]⟩ : Shape).Idx) : (Rect.unit (s := ⟨2, ![a, b]⟩) ![0, 0] (⟨2, ![a, b]⟩ : Shape).size inb).emb x = x := by
  funext d
  match d with
  | ⟨0, _⟩ => exact Fin.ext (by show 0 + 1 * (x 0).val = (x 0).val; omega)
  | ⟨1, _⟩ => exact Fin.ext (by show 0 + 1 * (x 1).val = (x 1).val; omega)

/-! ## The two parts of the body -/

/-- The codes, four rows to a row of words. -/
def wordsOf (X1 : Vec F S6912x128 .i8) : Vec F S1728x128 .i32 :=
  shapeCast S1728x128 (bitcast S1728x128 32 (shapeCast S6912x128 X1 shapeCasts_S6912x128_S6912x128) bitcasts_S6912x128_w8_S1728x128_w32) shapeCasts_S1728x128_S1728x128

/-- The `n` scales from scale `o` on. -/
def scaleChunk (X2 : Vec F S864 .f32) (o n : Nat) : Vec F ⟨1, ![n]⟩ .f32 := fun l => X2 (ix1 ⟨min (o + (l 0).val) 863, by omega⟩)

theorem scaleChunk_eq (X2 : Vec F S864 .f32) (o n : Nat) (ho : ∀ a, (![o] : Fin 1 → Nat) a + (⟨1, ![n]⟩ : Shape).size a ≤ S864.size a) :
    (fun x => X2 ((Rect.unit (s := S864) ![o] (⟨1, ![n]⟩ : Shape).size ho).toLoadRect.idx x)) = scaleChunk X2 o n := by
  funext l
  have h : o + n ≤ 864 := ho 0
  have hl : (l 0).val < n := (l 0).isLt
  unfold scaleChunk
  congr 1
  funext a
  match a with
  | ⟨0, _⟩ => exact Fin.ext (by show o + 1 * (l 0).val = min (o + (l 0).val) 863; omega)

/-- The seven rows of scales. -/
def rowsOf (X2 : Vec F S864 .f32) : Nat → FVec F S8x128 .f32 :=
  pickRow (scaleRow (scaleChunk X2 0 128)) (scaleRow (scaleChunk X2 128 128)) (scaleRow (scaleChunk X2 256 128)) (scaleRow (scaleChunk X2 384 128))
    (scaleRow (scaleChunk X2 512 128)) (scaleRow (scaleChunk X2 640 128)) (scaleRow (padScales (scaleChunk X2 768 96)))

/-- The weights of the codes `X1` and the scales `X2`. -/
def weightsOf (X1 : Vec F S6912x128 .i8) (X2 : Vec F S864 .f32) : Vec F S1152x1536 .bf16 := weights (wordsOf X1) (rowsOf X2)

/-- A block's product with the weights. -/
def productOf (X3 : Vec F S1024x1152 .bf16) (W : Vec F S1152x1536 .bf16) : Vec F S1024x1536 .bf16 :=
  truncf .bf16 (matmul dot_S1024x1152_S1152x1536_S1024x1536_1_0_0_1_n_n none (shapeCast S1024x1152 X3 shapeCasts_S1024x1152_S1024x1152) W
    (constant S1024x1536 .f32 0x00000000#32)) bitsLt_bf16_f32

variable (arg1 : Memref sig .tc .vmem S6912x128 .i8) (arg2 : Memref sig .tc .vmem S864 .f32)

/-- The dequantization leaves the weights in the scratch. -/
theorem wp_dequant (E : Set ℕ) (Q : PUnit → sProp 𝕄) (X1 : Vec F S6912x128 .i8) (X2 : Vec F S864 .f32) (k : Body F) :
    iprop(owns (c : Thread nD τ) arg1 fullShare X1 ∗ owns (c : Thread nD τ) arg2 fullShare X2
        ∗ (∃ d, owns (c : Thread nD τ) arg5 fullShare d) ∗ (∃ d, owns (c : Thread nD τ) arg6 fullShare d))
      ⊢ iprop(((owns (c : Thread nD τ) arg1 fullShare X1 ∗ owns (c : Thread nD τ) arg2 fullShare X2
          ∗ owns (c : Thread nD τ) arg5 fullShare (weightsOf X1 X2) ∗ (∃ d, owns (c : Thread nD τ) arg6 fullShare d))
          -∗ wp frame (wpE (defs₀ (F := F)) Variants.none c none) E k Q)
        -∗ wp frame (wpE (defs₀ (F := F)) Variants.none c none) E (dequant arg1 arg2 arg5 harg5 arg6 k) Q) := by
  unfold dequant loadScales
  iintro ⟨H1, H2, ⟨%d5, H5⟩, ⟨%d6, H6⟩⟩ Hk
  iapply (wp_load_owned c E Q arg1 _ _ X1) $$ H1
  iintro H1
  iapply (wp_load_owned c E Q arg6 _ _ d6) $$ H6
  iintro H6
  iapply (wp_store_owned c E Q arg6 _ _ _ _ d6 (wordsOf X1) ?_ ?_) $$ H6
  · intro x
    rw [emb_whole2, show (fun x => X1 ((Rect.unit (s := S6912x128) ![0, 0] S6912x128.size inb_S6912x128_S6912x128_0_0).toLoadRect.idx x)) = X1 from
      funext fun x => congrArg X1 (emb_whole2 inb_S6912x128_S6912x128_0_0 x)]
    rfl
  · exact fun y => ⟨y, emb_whole2 inb_S1728x128_S1728x128_0_0 y⟩
  iintro H6
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  rw [scaleChunk_eq X2 0 128, scaleChunk_eq X2 128 128, scaleChunk_eq X2 256 128, scaleChunk_eq X2 384 128, scaleChunk_eq X2 512 128,
    scaleChunk_eq X2 640 128, scaleChunk_eq X2 768 96, ← rowsOf]
  iapply (wp_groups c arg5 harg5 (wordsOf X1) (rowsOf X2) arg6 E Q 72 le_rfl k) $$ [H5 H6]
  · isplitl [H5]
    · unfold Part
      iexists d5
      isplitr
      · ipureintro
        intro i hi
        unfold Done at hi
        omega
      iexact H5
    iexact H6
  unfold Part
  iintro ⟨⟨%X, %hX, H5⟩, H6⟩
  have hX' : X = weightsOf X1 X2 := funext fun i => hX i (Or.inl (i 0).isLt)
  subst hX'
  iapply Hk
  isplitl [H1]; · iexact H1
  isplitl [H2]; · iexact H2
  isplitl [H5]; · iexact H5
  iexists _
  iexact H6

variable (arg3 : Memref sig .tc .vmem S1024x1152 .bf16) (arg4 : Memref sig .tc .vmem S1024x1536 .bf16) (harg4 : arg4.IsWhole)

/-- The product leaves the block's product with the scratch. -/
theorem wp_product (E : Set ℕ) (K : PUnit → sProp 𝕄) (X3 : Vec F S1024x1152 .bf16) (W : Vec F S1152x1536 .bf16) :
    iprop(owns (c : Thread nD τ) arg3 fullShare X3 ∗ (∃ d, owns (c : Thread nD τ) arg4 fullShare d) ∗ owns (c : Thread nD τ) arg5 fullShare W)
      ⊢ iprop(((owns (c : Thread nD τ) arg3 fullShare X3 ∗ owns (c : Thread nD τ) arg4 fullShare (productOf X3 W)
          ∗ owns (c : Thread nD τ) arg5 fullShare W) -∗ K ⟨⟩)
        -∗ wp frame (wpE (defs₀ (F := F)) Variants.none c none) E (product arg5 arg3 arg4 harg4) K) := by
  unfold product
  iintro ⟨H3, ⟨%d4, H4⟩, H5⟩ Hk
  iapply (wp_load_owned c E K arg3 _ _ X3) $$ H3
  iintro H3
  iapply (wp_load_owned c E K arg5 _ _ W) $$ H5
  iintro H5
  iapply (wp_load_owned c E K arg4 _ _ d4) $$ H4
  iintro H4
  iapply (wp_store_owned c E K arg4 _ _ _ _ d4 (productOf X3 W) ?_ ?_) $$ H4
  · intro x
    rw [emb_whole2, show (fun x => X3 ((Rect.unit (s := S1024x1152) ![0, 0] S1024x1152.size inb_S1024x1152_S1024x1152_0_0).toLoadRect.idx x)) = X3 from
      funext fun x => congrArg X3 (emb_whole2 inb_S1024x1152_S1024x1152_0_0 x),
      show (fun x => W ((Rect.unit (s := S1152x1536) ![0, 0] S1152x1536.size inb_S1152x1536_S1152x1536_0_0).toLoadRect.idx x)) = W from
      funext fun x => congrArg W (emb_whole2 inb_S1152x1536_S1152x1536_0_0 x)]
    rfl
  · exact fun y => ⟨y, emb_whole2 inb_S1024x1536_S1024x1536_0_0 y⟩
  iintro H4
  rw [wp_ret]; imodintro
  iapply Hk
  isplitl [H3]; · iexact H3
  isplitl [H4]; · iexact H4
  iexact H5

end

end Cert.Kernel.Dequant

end
-- ==== Proof.BitsBody.lean ====
/- The pipeline's proof data, the body's obligation at every grid point, and the run.

   The weights are written into the scratch at the first point and read at every point; the
   invariant carries them from one point to the next. -/
module

public import proofs.«01_k».proof.Proof.BitsStructEq
public import proofs.«01_k».proof.Proof.BitsRun
public import Idealize.ShloMosaic.Lib.Claim

@[expose] public section

set_option maxRecDepth 16384

noncomputable section

namespace Cert.Kernel.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's triple -/

/-- The condition of the body's branch, from the grid coordinates. -/
abbrev first (i : grid0.Coords) : Prop := Scalar.cmpi .ne (Scalar.extui (Scalar.cmpi .eq (BitVec.ofNat 32 (i 0).val) 0#32) : BitVec 32) 0#32 = 1#1

/-- It holds at the first point only. -/
theorem first_iff (t : Fin cfg0.N) : first (grid0.coords t) ↔ t.val % 32 = 0 := by
  have ht : t.val < 32 := Nat.lt_of_lt_of_eq t.isLt N_0
  have e0 : (grid0.coords t 0).val = t.val / 1 % 32 := Pipeline.Grid.coords_val t 0 (by decide) rfl
  simp only [first, e0]
  word_cmp

section
variable (c : Dev nD) (i : grid0.Coords) (arg1 : Memref sig .tc .vmem S6912x128 .i8) (harg1 : arg1.IsWhole) (arg2 : Memref sig .tc .vmem S864 .f32) (harg2 : arg2.IsWhole)
    (arg3 : Memref sig .tc .vmem S1024x1152 .bf16) (harg3 : arg3.IsWhole) (arg4 : Memref sig .tc .vmem S1024x1536 .bf16) (harg4 : arg4.IsWhole)
    (arg5 : Memref sig .tc .vmem S1152x1536 .bf16) (harg5 : arg5.IsWhole) (arg6 : Memref sig .tc .vmem S1728x128 .i32) (harg6 : arg6.IsWhole)

/-- At the first point: the weights are written and the block's product with them is stored. -/
theorem wp_first (E : Set ℕ) (K : PUnit → sProp 𝕄) (hi : first i) (X1 : Vec F S6912x128 .i8) (X2 : Vec F S864 .f32) (X3 : Vec F S1024x1152 .bf16) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d) ∗ (∃ d, owns (c : Thread nD τ) arg6 fullShare d))
      ⊢ iprop(((owns (c : Thread nD τ) arg1 fullShare X1 ∗ owns (c : Thread nD τ) arg2 fullShare X2 ∗ owns (c : Thread nD τ) arg3 fullShare X3
          ∗ owns (c : Thread nD τ) arg4 fullShare (productOf X3 (weightsOf X1 X2)) ∗ owns (c : Thread nD τ) arg5 fullShare (weightsOf X1 X2)
          ∗ (∃ d, owns (c : Thread nD τ) arg6 fullShare d)) -∗ K ⟨⟩)
        -∗ wp frame (wpE (defs₀ (F := F)) Variants.none c none) E (cc0_int4_linear i arg1 harg1 arg2 harg2 arg3 harg3 arg4 harg4 arg5 harg5 arg6 harg6) K) := by
  rw [cc0_eq, dif_pos hi, wp_bind]
  iintro ⟨H1, H2, H3, H4, H5, H6⟩ Hk
  iapply (wp_dequant c arg5 harg5 arg6 arg1 arg2 E _ X1 X2 (pure ⟨⟩)) $$ [H1 H2 H5 H6]
  · isplitl [H1]; · iexact H1
    isplitl [H2]; · iexact H2
    isplitl [H5]; · iexact H5
    iexact H6
  iintro ⟨H1, H2, H5, H6⟩
  rw [wp_pure]; imodintro
  iapply (wp_product c arg5 arg3 arg4 harg4 E K X3 (weightsOf X1 X2)) $$ [H3 H4 H5]
  · isplitl [H3]; · iexact H3
    isplitl [H4]; · iexact H4
    iexact H5
  iintro ⟨H3, H4, H5⟩
  iapply Hk
  isplitl [H1]; · iexact H1
  isplitl [H2]; · iexact H2
  isplitl [H3]; · iexact H3
  isplitl [H4]; · iexact H4
  isplitl [H5]; · iexact H5
  iexact H6

/-- At every other point: the block's product with the scratch is stored. -/
theorem wp_later (E : Set ℕ) (K : PUnit → sProp 𝕄) (hi : ¬ first i) (X3 : Vec F S1024x1152 .bf16) (W : Vec F S1152x1536 .bf16) :
    iprop(owns (c : Thread nD τ) arg3 fullShare X3 ∗ (∃ d, owns (c : Thread nD τ) arg4 fullShare d) ∗ owns (c : Thread nD τ) arg5 fullShare W)
      ⊢ iprop(((owns (c : Thread nD τ) arg3 fullShare X3 ∗ owns (c : Thread nD τ) arg4 fullShare (productOf X3 W)
          ∗ owns (c : Thread nD τ) arg5 fullShare W) -∗ K ⟨⟩)
        -∗ wp frame (wpE (defs₀ (F := F)) Variants.none c none) E (cc0_int4_linear i arg1 harg1 arg2 harg2 arg3 harg3 arg4 harg4 arg5 harg5 arg6 harg6) K) := by
  rw [cc0_eq, dif_neg hi]
  exact wp_product c arg5 arg3 arg4 harg4 E K X3 W

end

/-! ## The pipeline's proof data -/

/-- The grid's first point. -/
abbrev t0 : Fin cfg0.N := ⟨0, lt_of_lt_of_eq (by decide : 0 < 32) N_0.symm⟩

/-- The weights of the arrays the region finds. -/
def wts (c : Dev nD) : Vec F S1152x1536 .bf16 := weightsOf (iblk m c 0 t0) (iblk m c 1 t0)

/-- The two scratch operands. -/
abbrev scW : Memref sig .tc .vmem S1152x1536 .bf16 := Memref.whole cc0_scratch0
abbrev scX : Memref sig .tc .vmem S1728x128 .i32 := Memref.whole cc0_scratch1

/-- The invariant after the first point: the scratch holds the weights. -/
def Kept (c : Dev nD) : sProp 𝕄 :=
  iprop(iprop(owns (c : Thread nD τ) scW fullShare (wts m c) ∗ (∃ d, owns (c : Thread nD τ) scX fullShare d)) ∗ (∃ r, prngReg c r))

/-- The class's invariant, the scratch operands as memrefs owned at some contents. -/
theorem PhiA_eq (c : Dev nD) :
    (Pipeline.ΦA spec0 c : sProp 𝕄)
      = iprop(iprop((∃ d, owns (c : Thread nD τ) scW fullShare d) ∗ (∃ d, owns (c : Thread nD τ) scX fullShare d)) ∗ (∃ r, prngReg c r)) := by
  unfold Pipeline.ΦA; rw [scopedRest0_eq]; simp only [scW, scX, owns_whole]; rfl

/-- The arrays as the region finds them; after the body at a point each input's buffer at its block, the output's
    at the block's product with the weights; the scratch at anything before the first point and at the weights after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => productOf (iblk m c 2 t) (wts m c)
  Φ t := if t.val = 0 then Pipeline.ΦA spec0 c else Kept m c
  q _ := fullShare
  owed _ := 0

theorem A_eq (c : Dev nD) (w : Fin cfg0.W) : (dats m 0 c).A w = V m c (Pipeline.arrRef spec0 w) := by
  dsimp only [dats]

/-- The invariant before the first point and after it. -/
theorem Phi_zero (c : Dev nD) (t : Fin (cfg0.N + 1)) (h : t.val = 0) : (dats m 0 c).Φ t = Pipeline.ΦA spec0 c := by
  dsimp only [dats]; exact if_pos h
theorem Phi_pos (c : Dev nD) (t : Fin (cfg0.N + 1)) (h : t.val ≠ 0) : (dats m 0 c).Φ t = Kept m c := by
  dsimp only [dats]; exact if_neg h

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = productOf (iblk m c 2 t) (wts m c) := by dsimp only [dats]

/-- Each input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [Phi_pos m c t.succ (Nat.succ_ne_zero t.val),
    show (dats m 0 c).owesAt () t.succ = (dats m 0 c).owesAt () t.castSucc from rfl,
    after_0, after_1, after_2, after_3]
  have hN : t.val < 32 := lt_of_lt_of_eq t.isLt (show cfg0.N = 32 from N_0)
  by_cases h0 : t.val = 0
  · obtain rfl : t = t0 := Fin.ext h0
    rw [Phi_zero m c t0.castSucc rfl, PhiA_eq]
    unfold Kept wts
    iintro ⟨⟨⟨HS0, HS1⟩, Hg⟩, Ho, ⟨%d0, H0⟩, ⟨%d1, H1⟩, ⟨%d2, H2⟩, ⟨%d3, H3⟩⟩
    iapply (wp_first c (grid0.coords t0) _ _ _ _ _ _ _ _ _ _ _ _ Set.univ _ ((first_iff t0).mpr rfl) (iblk m c 0 t0) (iblk m c 1 t0) (iblk m c 2 t0)) $$ [H0 H1 H2 H3 HS0 HS1]
    · isplitl [H0]; · iexact H0
      isplitl [H1]; · iexact H1
      isplitl [H2]; · iexact H2
      isplitl [H3]; · iexists _; iexact H3
      isplitl [HS0]; · iexact HS0
      iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3
  · rw [Phi_pos m c t.castSucc h0]
    unfold Kept
    iintro ⟨⟨⟨HS0, HS1⟩, Hg⟩, Ho, ⟨%d0, H0⟩, ⟨%d1, H1⟩, ⟨%d2, H2⟩, ⟨%d3, H3⟩⟩
    iapply (wp_later c (grid0.coords t) _ _ _ _ _ _ _ _ _ _ _ _ Set.univ _ (fun h => h0 (by have := (first_iff t).mp h; omega)) (iblk m c 2 t) (wts m c)) $$ [H2 H3 HS0]
    · isplitl [H2]; · iexact H2
      isplitl [H3]; · iexists _; iexact H3
      iexact HS0
    iintro ⟨H2, H3, HS0⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The weights forgotten, the invariant is the class's. -/
theorem kept_forget (c : Dev nD) : Kept m c ⊢ (Pipeline.ΦA spec0 c : sProp 𝕄) := by
  rw [PhiA_eq]
  unfold Kept
  iintro ⟨⟨HS0, HS1⟩, Hg⟩
  isplitl [HS0 HS1]
  · isplitl [HS0]
    · iexists _; iexact HS0
    iexact HS1
  iexact Hg

/-- Every weakly fair execution of `main` terminates with the arrays as the proof data says and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last _) (by rw [Fin.val_last]; exact ne_of_eq_of_ne N_0 (by decide))]
      exact kept_forget m c)
    (Q' := fun r => Pipeline.FramePost cfgs (dats m) 0 (V m) r ∧ r.2.sem = fun _ => 0)
    (hQ' := fun _ h => h)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Dequant

end
-- ==== Proof.Struct.lean ====
/- The kernel's body with its unrolled loops written as loops.

   The printed body is straight-line text: 72 groups of 16 rows, each group three pairs of
   512 columns, each pair two halves of 128 code lanes, each half two tiles (the low and the
   high nibbles). Here the same statements are one definition per level, with the group, the
   pair and the half as parameters, in the same order and with the same operands.
   `cc0_eq` says that the two texts are the same program. -/
module

public import proofs.«01_k».proof.Proof.Gen.KernelIdeal.Frame
public import Idealize.ShloMosaic.Lib.Pipeline.Regions

@[expose] public section

set_option maxRecDepth 16384

noncomputable section

namespace Cert.KernelIdeal.Dequant

open Idealize.ShloMosaic Idealize.SL.Sem
open Cert.KernelIdeal Cert.KernelIdeal.Gen

variable {F : FTy → Type} [FloatOps F]

/-! ## The pure operations -/

/-- The lane number of each element. -/
def lanes : IVec S8x128 32 := iota .tc S8x128 32 [1] iota_S8x128_d1_w32
/-- The sublane number of each element. -/
def sublanes : IVec S8x128 32 := iota .tc S8x128 32 [0] iota_S8x128_d0_w32
/-- Four times the lane's parity: the shift that brings the lane's nibble down. -/
def nibbleShift : IVec S8x128 32 := muli (andi lanes (broadcast S8x128 1#32)) (broadcast S8x128 4#32)
/-- The lane that holds this lane's code, in the half starting at lane `h`. -/
def halfLane (h : BitVec 32) : IVec S8x128 32 := addi (shrsi lanes (broadcast S8x128 1#32)) (broadcast S8x128 h)
/-- `⌊3 s / 2⌋` at sublane `s`. -/
def patA : IVec S8x128 32 := shrsi (muli (broadcast S8x128 3#32) sublanes) (broadcast S8x128 1#32)
/-- `⌊(3 s + 1) / 2⌋` at sublane `s`. -/
def patB : IVec S8x128 32 := shrsi (addi (muli (broadcast S8x128 3#32) sublanes) (broadcast S8x128 1#32)) (broadcast S8x128 1#32)
/-- `⌊3 s / 2⌋ + 1` at sublane `s`. -/
def patC : IVec S8x128 32 := addi patA (broadcast S8x128 1#32)

/-- A gather's index operand: a negative index counts from the end. -/
def gatherIdx (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- The scales of 128 consecutive blocks, one per lane, rounded to bf16 and widened back. -/
def scaleRow (v : Vec F S128 .f32) : FVec F S8x128 .f32 :=
  extf .f32 (truncf .bf16 (broadcastTo S8x128 (shapeCast S1x128 (shapeCast S1x128 v shapeCasts_S128_S1x128)
    shapeCasts_S1x128_S1x128) broadcasts_S1x128_S8x128) bitsLt_bf16_f32) bitsLt_bf16_f32
/-- The last 96 scales, padded with zeros. -/
def padScales (v : Vec F S96 .f32) : Vec F S128 .f32 :=
  concatenate S128 0 [⟨S96, v⟩, ⟨S32, broadcast S32 (Scalar.ofBits .f32 0x00000000#32)⟩] concatenates_S96_S32_S128_d0

/-- The `n`-th of the seven rows. -/
def pickRow {α : Type} (r0 r1 r2 r3 r4 r5 r6 : α) : Nat → α
  | 0 => r0 | 1 => r1 | 2 => r2 | 3 => r3 | 4 => r4 | 5 => r5 | _ => r6

/-- The row of scales that group `g` gathers from: its own row, or, when the group's scales
    cross from one row to the next, the two rows joined at lane 64. -/
def groupRow (rows : Nat → FVec F S8x128 .f32) (g : Nat) : FVec F S8x128 .f32 :=
  cond (Nat.beq (12 * g / 128) ((12 * g + 11) / 128)) (rows (12 * g / 128))
    (select (cmpi .slt lanes (broadcast S8x128 64#32)) (rows ((12 * g + 11) / 128)) (rows (12 * g / 128)))

/-- The scales of group `g` in the pattern `pat`, one per sublane. -/
def groupScale (rows : Nat → FVec F S8x128 .f32) (g : Nat) (pat : IVec S8x128 32) : FVec F S8x128 .f32 :=
  dynamicGather 1 (groupRow rows g)
    (gatherIdx (andi (addi pat (broadcast S8x128 (BitVec.ofNat 32 (12 * g)))) (broadcast S8x128 127#32)))

/-- Two sublane patterns of scales as the even and the odd rows of a tile. -/
def packScale (a b : FVec F S8x128 .f32) : FVec F S16x128 .bf16 :=
  interleaveRows S16x128 (truncf .bf16 a) (truncf .bf16 b) bitcasts_S16x128_w16_S8x128_w32

/-- The first pair's words, from the group's three word rows. -/
def word0 (c0 c1 : IVec S8x128 32) : IVec S8x128 32 := ori (andi c0 (broadcast S8x128 65535#32)) (andi c1 (broadcast S8x128 4294901760#32))
/-- The second pair's words. -/
def word1 (c0 c2 : IVec S8x128 32) : IVec S8x128 32 := ori (shrui c0 (broadcast S8x128 16#32)) (shli c2 (broadcast S8x128 16#32))

/-- A half's nibbles: each lane's code brought down by the lane's nibble shift. -/
def nibbles (w idx : IVec S8x128 32) : IVec S8x128 32 :=
  shrui (dynamicGather 1 (xori w (broadcast S8x128 2290649224#32)) (gatherIdx idx)) nibbleShift

/-- A tile of weights: the nibbles as biased floats, the bias removed, times the scales. -/
def tile (n : IVec S8x128 32) (scale : FVec F S16x128 .bf16) : FVec F S16x128 .bf16 :=
  shapeCast S16x128 (mulf (subf
    (bitcastToFloat .bf16 (bitcast S16x128 16 (ori (andi n (broadcast S8x128 983055#32)) (broadcast S8x128 1124090624#32)) bitcasts_S8x128_w32_S16x128_w16))
    (broadcast S16x128 (Scalar.ofBits .bf16 0x4308#16))) scale) shapeCasts_S16x128_S16x128

/-! ## The rectangles -/

theorem inb_tile {r c : Nat} (hr : r ≤ 1136) (hc : c ≤ 1408) : ∀ a, (![r, c] : Fin 2 → Nat) a + S16x128.size a ≤ S1152x1536.size a := by
  intro a; fin_cases a
  · show r + 16 ≤ 1152; omega
  · show c + 128 ≤ 1536; omega

/-- The tile whose first row is `r` and whose first column is `c`. -/
def tileRect (r c : Nat) (hr : r ≤ 1136) (hc : c ≤ 1408) : Rect S1152x1536 := Rect.unit (s := S1152x1536) ![r, c] S16x128.size (inb_tile hr hc)

theorem packed_tile {g c : Nat} (hr : 16 * g ≤ 1136) (hc : c ≤ 1408) : (tileRect (16 * g) c hr hc).PackedRows (EltTy.packing .bf16) :=
  .inr ⟨le_rfl, rfl, .inl ⟨⟨8 * g, show 16 * g = 2 * (8 * g) by omega⟩, ⟨8, rfl⟩⟩⟩

theorem inb_words {r : Nat} (hr : r ≤ 1706) : ∀ a, S8x128.size a = 0 ∨ (![r, 0] : Fin 2 → Nat) a + (![3, 1] : Fin 2 → Nat) a * (S8x128.size a - 1) < S1728x128.size a := by
  intro a; fin_cases a
  · right; show r + 3 * (8 - 1) < 1728; omega
  · right; show 0 + 1 * (128 - 1) < 128; omega

/-- Every third word row from row `r`. -/
def wordRect (r : Nat) (hr : r ≤ 1706) : LoadRect S1728x128 := ⟨![r, 0], S8x128.size, ![3, 1], inb_words hr⟩

/-! ## The program -/

/-- Programs of the kernel's body. -/
abbrev Body (F : FTy → Type) : Type 1 := Prog (TpuEff nD τ sig (Elt F) Λ₀ .tc) PUnit

section
variable (arg1 : Memref sig .tc .vmem S6912x128 .i8) (arg2 : Memref sig .tc .vmem S864 .f32)
  (arg5 : Memref sig .tc .vmem S1152x1536 .bf16) (harg5 : arg5.IsWhole) (arg6 : Memref sig .tc .vmem S1728x128 .i32)

/-- One tile's load (its result unused) and store. -/
def storeTile (g c : Nat) (hr : 16 * g ≤ 1136) (hc : c ≤ 1408) (v : FVec F S16x128 .bf16) (k : Body F) : Body F :=
  .op (.load arg5 (tileRect (16 * g) c hr hc).toLoadRect (View.loadsAt_vmem h_S16x128)) fun _ =>
  .op (.store arg5 (tileRect (16 * g) c hr hc) v Finset.univ
    (View.stores_vmem h_S16x128 (harg5.storeExact_slice rfl _ (packed_tile hr hc)) (fun _ => rfl)) (.inl rfl)) fun _ => k

/-- One half's two tiles: the low nibbles, then the high nibbles 256 columns further. -/
def half (g c : Nat) (hr : 16 * g ≤ 1136) (hc : c + 256 ≤ 1408) (n : IVec S8x128 32) (scale : FVec F S16x128 .bf16) (k : Body F) : Body F :=
  storeTile arg5 harg5 g c hr (by omega) (tile n scale)
    (storeTile arg5 harg5 g (c + 256) hr hc (tile (shrui n (broadcast S8x128 8#32)) scale) k)

/-- One pair's two halves. -/
def pair (g p : Nat) (hr : 16 * g ≤ 1136) (hp : p < 3) (w : IVec S8x128 32) (scale : FVec F S16x128 .bf16) (k : Body F) : Body F :=
  half arg5 harg5 g (512 * p) hr (by omega) (nibbles w (halfLane 0#32)) scale
    (half arg5 harg5 g (512 * p + 128) hr (by omega) (nibbles w (halfLane 64#32)) scale k)

/-- One group: its three word rows, then its three pairs. -/
def group (rows : Nat → FVec F S8x128 .f32) (g : Nat) (hg : g < 72) (k : Body F) : Body F :=
  .op (.load arg6 (wordRect (24 * g) (by omega)) (View.loadsAt_vmem h_S8x128)) fun (c0 : Vec F S8x128 .i32) =>
  .op (.load arg6 (wordRect (24 * g + 1) (by omega)) (View.loadsAt_vmem h_S8x128)) fun (c1 : Vec F S8x128 .i32) =>
  .op (.load arg6 (wordRect (24 * g + 2) (by omega)) (View.loadsAt_vmem h_S8x128)) fun (c2 : Vec F S8x128 .i32) =>
  pair arg5 harg5 g 0 (by omega) (by omega) (word0 c0 c1) (packScale (groupScale rows g patA) (groupScale rows g patB))
  (pair arg5 harg5 g 1 (by omega) (by omega) (word1 c0 c2) (packScale (groupScale rows g patA) (groupScale rows g patC))
  (pair arg5 harg5 g 2 (by omega) (by omega) (word0 c1 c2) (packScale (groupScale rows g patB) (groupScale rows g patC)) k))

/-- The first `n` groups in order, then `k`. -/
def groups (rows : Nat → FVec F S8x128 .f32) : (n : Nat) → n ≤ 72 → Body F → Body F
  | 0, _, k => k
  | n + 1, h, k => groups rows n (by omega) (group arg5 harg5 arg6 rows n h k)

/-- The load of 128 scales. -/
def loadScales (o : Nat) (ho : ∀ a, (![o] : Fin 1 → Nat) a + S128.size a ≤ S864.size a) (k : FVec F S8x128 .f32 → Body F) : Body F :=
  .op (.load arg2 (Rect.unit (s := S864) ![o] S128.size ho).toLoadRect (View.loadsAt_vmem h_S128)) fun (v : Vec F S128 .f32) => k (scaleRow v)

/-- The whole dequantization, then `k`. -/
def dequant (k : Body F) : Body F :=
  .op (.load arg1 (Rect.unit (s := S6912x128) ![0, 0] S6912x128.size inb_S6912x128_S6912x128_0_0).toLoadRect (View.loadsAt_vmem h_S6912x128)) fun (v9 : Vec F S6912x128 .i8) =>
  .op (.load arg6 (Rect.unit (s := S1728x128) ![0, 0] S1728x128.size inb_S1728x128_S1728x128_0_0).toLoadRect (View.loadsAt_vmem h_S1728x128)) fun _ =>
  .op (.store arg6 (Rect.unit (s := S1728x128) ![0, 0] S1728x128.size inb_S1728x128_S1728x128_0_0)
    (shapeCast S1728x128 (bitcast S1728x128 32 (shapeCast S6912x128 v9 shapeCasts_S6912x128_S6912x128) bitcasts_S6912x128_w8_S1728x128_w32) shapeCasts_S1728x128_S1728x128)
    Finset.univ (View.stores_vmem_bits_univ h_S1728x128 rfl) (.inl rfl)) fun _ =>
  loadScales arg2 0 inb_S864_S128_0 fun r0 =>
  loadScales arg2 128 inb_S864_S128_128 fun r1 =>
  loadScales arg2 256 inb_S864_S128_256 fun r2 =>
  loadScales arg2 384 inb_S864_S128_384 fun r3 =>
  loadScales arg2 512 inb_S864_S128_512 fun r4 =>
  loadScales arg2 640 inb_S864_S128_640 fun r5 =>
  .op (.load arg2 (Rect.unit (s := S864) ![768] S96.size inb_S864_S96_768).toLoadRect (View.loadsAt_vmem h_S96)) fun (v77 : Vec F S96 .f32) =>
  groups arg5 harg5 arg6 (pickRow r0 r1 r2 r3 r4 r5 (scaleRow (padScales v77))) 72 le_rfl k

/-- The part of the body at every grid point: the block's product with the weights. -/
def product (arg3 : Memref sig .tc .vmem S1024x1152 .bf16) (arg4 : Memref sig .tc .vmem S1024x1536 .bf16) (harg4 : arg4.IsWhole) : Body F :=
  .op (.load arg3 (Rect.unit (s := S1024x1152) ![0, 0] S1024x1152.size inb_S1024x1152_S1024x1152_0_0).toLoadRect (View.loadsAt_vmem h_S1024x1152)) fun (x : Vec F S1024x1152 .bf16) =>
  .op (.load arg5 (Rect.unit (s := S1152x1536) ![0, 0] S1152x1536.size inb_S1152x1536_S1152x1536_0_0).toLoadRect (View.loadsAt_vmem h_S1152x1536)) fun (w : Vec F S1152x1536 .bf16) =>
  .op (.load arg4 (Rect.unit (s := S1024x1536) ![0, 0] S1024x1536.size inb_S1024x1536_S1024x1536_0_0).toLoadRect (View.loadsAt_vmem h_S1024x1536)) fun _ =>
  .op (.store arg4 (Rect.unit (s := S1024x1536) ![0, 0] S1024x1536.size inb_S1024x1536_S1024x1536_0_0)
    (truncf .bf16 (matmul dot_S1024x1152_S1152x1536_S1024x1536_1_0_0_1_n_n none (shapeCast S1024x1152 x shapeCasts_S1024x1152_S1024x1152) w
      (constant S1024x1536 .f32 0x00000000#32)) bitsLt_bf16_f32)
    Finset.univ (View.stores_vmem h_S1024x1536 (harg4.storeExact_slice rfl _ packedbf16_S1024x1536_S1024x1536_0_0) (fun _ => rfl)) (.inl rfl)) fun _ => .ret ⟨⟩

end

end Cert.KernelIdeal.Dequant

end
-- ==== Proof.StructEq.lean ====
/- The printed body is the body written with loops. -/
module

public import proofs.«01_k».proof.Proof.Struct

@[expose] public section

set_option maxRecDepth 16384

noncomputable section

namespace Cert.KernelIdeal.Dequant

open Idealize.ShloMosaic Idealize.SL.Sem
open Cert.KernelIdeal Cert.KernelIdeal.Gen

variable {F : FTy → Type} [FloatOps F]

/-- The body: the dequantization at the first grid point only, then the block's product. -/
theorem cc0_eq (i : grid0.Coords) (arg1 : Memref sig .tc .vmem S6912x128 .i8) (harg1 : arg1.IsWhole) (arg2 : Memref sig .tc .vmem S864 .f32) (harg2 : arg2.IsWhole)
    (arg3 : Memref sig .tc .vmem S1024x1152 .bf16) (harg3 : arg3.IsWhole) (arg4 : Memref sig .tc .vmem S1024x1536 .bf16) (harg4 : arg4.IsWhole)
    (arg5 : Memref sig .tc .vmem S1152x1536 .bf16) (harg5 : arg5.IsWhole) (arg6 : Memref sig .tc .vmem S1728x128 .i32) (harg6 : arg6.IsWhole) :
    cc0_int4_linear (F := F) i arg1 harg1 arg2 harg2 arg3 harg3 arg4 harg4 arg5 harg5 arg6 harg6
      = (do
          if h : Scalar.cmpi .ne (Scalar.extui (Scalar.cmpi .eq (BitVec.ofNat 32 (i 0).val) 0#32) : BitVec 32) 0#32 = 1#1 then
            dequant arg1 arg2 arg5 harg5 arg6 (pure ⟨⟩)
          else pure ⟨⟩
          product arg5 arg3 arg4 harg4) := by
  chain_rfl

end Cert.KernelIdeal.Dequant

end
-- ==== Proof.Run.lean ====
/- What the structured body computes: the weights a grid point writes into the scratch, and
   the triples that say so, one per level of the loop nest. -/
module

public import proofs.«01_k».proof.Proof.Struct
public import Idealize.ShloMosaic.Lib.ValueIdxCore

@[expose] public section

set_option maxRecDepth 16384

noncomputable section

namespace Cert.KernelIdeal.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx (ix2 ix1 eq_ix2 eq_ix1 idx2_lt0 idx2_lt1)

variable {F : FTy → Type} [FloatOps F]

local notation "𝕄" => MT nD τ sig Unit (Elt F) ℕ (UR sig nD τ) ℕ

/-! ## The weights -/

/-- Every third word row from row `r`. -/
def wordRow (X : Vec F S1728x128 .i32) (r : Nat) : IVec S8x128 32 :=
  fun j => X (ix2 ⟨min (r + 3 * (j 0).val) 1727, by omega⟩ (j 1))

/-- The words of pair `p` of group `g`. -/
def pairWord (X : Vec F S1728x128 .i32) (g : Nat) : Nat → IVec S8x128 32
  | 0 => word0 (wordRow X (24 * g)) (wordRow X (24 * g + 1))
  | 1 => word1 (wordRow X (24 * g)) (wordRow X (24 * g + 2))
  | _ => word0 (wordRow X (24 * g + 1)) (wordRow X (24 * g + 2))

/-- The scales of pair `p` of group `g`. -/
def pairScale (rows : Nat → FVec F S8x128 .f32) (g : Nat) : Nat → FVec F S16x128 .bf16
  | 0 => packScale (groupScale rows g patA) (groupScale rows g patB)
  | 1 => packScale (groupScale rows g patA) (groupScale rows g patC)
  | _ => packScale (groupScale rows g patB) (groupScale rows g patC)

/-- The nibbles of half `h` of the words `w`. -/
def halfNibbles (w : IVec S8x128 32) : Nat → IVec S8x128 32
  | 0 => nibbles w (halfLane 0#32)
  | _ => nibbles w (halfLane 64#32)

/-- The low (`o = 0`) or the high nibbles' tile. -/
def sideTile (n : IVec S8x128 32) (scale : FVec F S16x128 .bf16) : Nat → FVec F S16x128 .bf16
  | 0 => tile n scale
  | _ => tile (shrui n (broadcast S8x128 8#32)) scale

/-- The tile of group `g`, pair `p`, half `h`, side `o`. -/
def tileAt (X : Vec F S1728x128 .i32) (rows : Nat → FVec F S8x128 .f32) (g p h o : Nat) : FVec F S16x128 .bf16 :=
  sideTile (halfNibbles (pairWord X g p) h) (pairScale rows g p) o

/-- The weights, tile by tile: 16 rows of a group, 512 columns of a pair, 256 of a side, 128 of a half. -/
def weights (X : Vec F S1728x128 .i32) (rows : Nat → FVec F S8x128 .f32) : Vec F S1152x1536 .bf16 := fun i =>
  tileAt X rows ((i 0).val / 16) ((i 1).val / 512) ((i 1).val / 128 % 2) ((i 1).val / 256 % 2)
    (ix2 ⟨(i 0).val % 16, Nat.mod_lt _ (by decide)⟩ ⟨(i 1).val % 128, Nat.mod_lt _ (by decide)⟩)

/-- The weights inside a tile are the tile. -/
theorem weights_tile (X : Vec F S1728x128 .i32) (rows : Nat → FVec F S8x128 .f32) (g p h o c : Nat) (hr : 16 * g ≤ 1136) (hc : c ≤ 1408)
    (hh : h < 2) (ho : o < 2) (e : c = 512 * p + 256 * o + 128 * h) (x : S16x128.Idx) :
    tileAt X rows g p h o x = weights X rows ((tileRect (16 * g) c hr hc).emb x) := by
  have h0 : (((tileRect (16 * g) c hr hc).emb x) 0).val = 16 * g + 1 * (x 0).val := rfl
  have h1 : (((tileRect (16 * g) c hr hc).emb x) 1).val = c + 1 * (x 1).val := rfl
  have l0 : (x 0).val < 16 := (x 0).isLt
  have l1 : (x 1).val < 128 := (x 1).isLt
  unfold weights
  have e1 : (((tileRect (16 * g) c hr hc).emb x) 0).val / 16 = g := by rw [h0]; omega
  have e2 : (((tileRect (16 * g) c hr hc).emb x) 1).val / 512 = p := by rw [h1]; omega
  have e3 : (((tileRect (16 * g) c hr hc).emb x) 1).val / 128 % 2 = h := by rw [h1]; omega
  have e4 : (((tileRect (16 * g) c hr hc).emb x) 1).val / 256 % 2 = o := by rw [h1]; omega
  rw [e1, e2, e3, e4]
  congr 1
  funext a
  match a with
  | ⟨0, _⟩ => exact Fin.ext (by show (x 0).val = (((tileRect (16 * g) c hr hc).emb x) 0).val % 16; rw [h0]; omega)
  | ⟨1, _⟩ => exact Fin.ext (by show (x 1).val = (((tileRect (16 * g) c hr hc).emb x) 1).val % 128; rw [h1]; omega)

/-! ## The triples -/

section
variable (c : Dev nD)

/-- A load of an owned memref reads its contents under the rectangle's coordinates. -/
theorem wp_load_owned (E : Set ℕ) (Q : PUnit → sProp 𝕄) {cs : CoreSpace} {s : Shape} {e : EltTy} (m : Memref sig .tc cs s e) (r : LoadRect s) (hl : m.view.LoadsAt r)
    (X : s.Idx → Elt F e) (k : (r.shape.Idx → Elt F e) → Body F) :
    owns (c : Thread nD τ) m fullShare X
      ⊢ iprop((owns (c : Thread nD τ) m fullShare X -∗ wp frame (wpE (defs₀ (F := F)) Variants.none c none) E (k fun x => X (r.idx x)) Q)
        -∗ wp frame (wpE (defs₀ (F := F)) Variants.none c none) E (Prog.op (.load m r hl) k) Q) := by
  unfold owns
  iintro ⟨%f, %hf, H⟩ Hk
  iapply (wp_load Variants.none (c : Thread nD τ) none E (m := m) (r := r) (hl := hl) (k := k) (Q := Q) (q := fullShare) (f := f)
    (S := m.view.set) (m.view.setOn_subset_set _)) $$ H
  iintro H
  have hr : View.readAt (Elt F) m.view r f = fun x => X (r.idx x) := by subst hf; rfl
  rw [hr]
  iapply Hk
  iexists f
  isplitr
  · ipureintro; exact hf
  iexact H

/-- The scratch agrees with `W` on the elements `S`. -/
def Part (arg5 : Memref sig .tc .vmem S1152x1536 .bf16) (W : Vec F S1152x1536 .bf16) (S : S1152x1536.Idx → Prop) : sProp 𝕄 :=
  iprop(∃ X, ⌜∀ i, S i → X i = W i⌝ ∗ owns (c : Thread nD τ) arg5 fullShare X)

/-- Agreement on fewer elements. -/
theorem Part.mono {arg5 : Memref sig .tc .vmem S1152x1536 .bf16} {W : Vec F S1152x1536 .bf16} {S S' : S1152x1536.Idx → Prop} (h : ∀ i, S' i → S i) :
    Part c arg5 W S ⊢ Part c arg5 W S' := by
  unfold Part
  iintro ⟨%X, %hX, H⟩
  iexists X
  isplitr
  · ipureintro; exact fun i hi => hX i (h i hi)
  iexact H

/-- Element `i` is in the tile of rows `16 g …` and columns `c …`. -/
def InTile (g c : Nat) (i : S1152x1536.Idx) : Prop := 16 * g ≤ (i 0).val ∧ (i 0).val < 16 * g + 16 ∧ c ≤ (i 1).val ∧ (i 1).val < c + 128

theorem exists_of_inTile {g c : Nat} {hr : 16 * g ≤ 1136} {hc : c ≤ 1408} {i : S1152x1536.Idx} (h : InTile g c i) :
    ∃ x, (tileRect (16 * g) c hr hc).emb x = i := by
  obtain ⟨a0, a1, b0, b1⟩ := h
  refine ⟨ix2 ⟨(i 0).val - 16 * g, by omega⟩ ⟨(i 1).val - c, by omega⟩, ?_⟩
  funext a
  match a with
  | ⟨0, _⟩ => exact Fin.ext (by show 16 * g + 1 * ((i 0).val - 16 * g) = (i 0).val; omega)
  | ⟨1, _⟩ => exact Fin.ext (by show c + 1 * ((i 1).val - c) = (i 1).val; omega)

variable (arg5 : Memref sig .tc .vmem S1152x1536 .bf16) (harg5 : arg5.IsWhole) (W : Vec F S1152x1536 .bf16)

/-- A tile's store adds the tile to what agrees. -/
theorem wp_storeTile (E : Set ℕ) (Q : PUnit → sProp 𝕄) (S : S1152x1536.Idx → Prop) (g co : Nat) (hr : 16 * g ≤ 1136) (hc : co ≤ 1408) (v : FVec F S16x128 .bf16)
    (hv : ∀ x, v x = W ((tileRect (16 * g) co hr hc).emb x)) (k : Body F) :
    Part c arg5 W S
      ⊢ iprop((Part c arg5 W (fun i => S i ∨ InTile g co i) -∗ wp frame (wpE (defs₀ (F := F)) Variants.none c none) E k Q)
        -∗ wp frame (wpE (defs₀ (F := F)) Variants.none c none) E (storeTile arg5 harg5 g co hr hc v k) Q) := by
  unfold Part storeTile
  iintro ⟨%X, %hX, H⟩ Hk
  iapply (wp_load_owned c E Q arg5 _ _ X) $$ H
  unfold owns
  iintro ⟨%f, %hf, H⟩
  iapply (wp_store Variants.none (c : Thread nD τ) none E (m := arg5) (r := tileRect (16 * g) co hr hc) (w := v) (Mk := Finset.univ)
    (Q := Q) (f := f) (S := arg5.view.set) (arg5.view.set_slice_subset _)) $$ H
  iintro H
  iapply Hk
  iexists (arg5.view.read (Elt F) ((arg5.access (tileRect (16 * g) co hr hc)).write (Elt F) f v Finset.univ))
  isplitr
  · ipureintro
    intro i hi
    by_cases hm : i ∈ Finset.univ.map (tileRect (16 * g) co hr hc).emb
    · obtain ⟨x, -, rfl⟩ := Finset.mem_map.1 hm
      exact (View.read_slice_write_emb (v := arg5.view) (tileRect (16 * g) co hr hc) f v (Finset.mem_univ x)).trans (hv x)
    · rcases hi with hi | hi
      · exact (View.read_slice_write_of_not_mem (v := arg5.view) (tileRect (16 * g) co hr hc) f v _ hm).trans
          ((congrFun hf i).trans (hX i hi))
      · obtain ⟨x, rfl⟩ := exists_of_inTile (hr := hr) (hc := hc) hi
        exact absurd (Finset.mem_map_of_mem _ (Finset.mem_univ x)) hm
  iexists _
  isplitr
  swap
  · iexact H
  ipureintro; rfl

/-- A half's two tiles. -/
theorem wp_half (E : Set ℕ) (Q : PUnit → sProp 𝕄) (S : S1152x1536.Idx → Prop) (g co : Nat) (hr : 16 * g ≤ 1136) (hc : co + 256 ≤ 1408) (n : IVec S8x128 32) (scale : FVec F S16x128 .bf16)
    (h0 : ∀ x, sideTile n scale 0 x = W ((tileRect (16 * g) co hr (by omega)).emb x))
    (h1 : ∀ x, sideTile n scale 1 x = W ((tileRect (16 * g) (co + 256) hr hc).emb x)) (k : Body F) :
    Part c arg5 W S
      ⊢ iprop((Part c arg5 W (fun i => (S i ∨ InTile g co i) ∨ InTile g (co + 256) i) -∗ wp frame (wpE (defs₀ (F := F)) Variants.none c none) E k Q)
        -∗ wp frame (wpE (defs₀ (F := F)) Variants.none c none) E (half arg5 harg5 g co hr hc n scale k) Q) := by
  unfold half
  iintro H Hk
  iapply (wp_storeTile c arg5 harg5 W E Q S g co hr _ (tile n scale) h0) $$ H
  iintro H
  iapply (wp_storeTile c arg5 harg5 W E Q _ g (co + 256) hr hc (tile (shrui n (broadcast S8x128 8#32)) scale) h1) $$ H
  iexact Hk

variable (X6 : Vec F S1728x128 .i32) (rows : Nat → FVec F S8x128 .f32)

/-- The elements of the groups before `g`, and of group `g` the columns before `b`. -/
def Done (g b : Nat) (i : S1152x1536.Idx) : Prop := (i 0).val < 16 * g ∨ ((i 0).val < 16 * g + 16 ∧ (i 1).val < b)

/-- One pair: its 512 columns of the group are done. -/
theorem wp_pair (E : Set ℕ) (Q : PUnit → sProp 𝕄) (g p : Nat) (hr : 16 * g ≤ 1136) (hp : p < 3) (w : IVec S8x128 32) (scale : FVec F S16x128 .bf16)
    (hw : w = pairWord X6 g p) (hs : scale = pairScale rows g p) (k : Body F) :
    Part c arg5 (weights X6 rows) (Done g (512 * p))
      ⊢ iprop((Part c arg5 (weights X6 rows) (Done g (512 * (p + 1))) -∗ wp frame (wpE (defs₀ (F := F)) Variants.none c none) E k Q)
        -∗ wp frame (wpE (defs₀ (F := F)) Variants.none c none) E (pair arg5 harg5 g p hr hp w scale k) Q) := by
  subst hw hs
  unfold pair
  iintro H Hk
  iapply (wp_half c arg5 harg5 (weights X6 rows) E Q _ g (512 * p) hr _ (nibbles (pairWord X6 g p) (halfLane 0#32)) (pairScale rows g p)
    (weights_tile X6 rows g p 0 0 _ hr _ (by decide) (by decide) rfl)
    (weights_tile X6 rows g p 0 1 _ hr _ (by decide) (by decide) rfl)) $$ H
  iintro H
  iapply (wp_half c arg5 harg5 (weights X6 rows) E Q _ g (512 * p + 128) hr _ (nibbles (pairWord X6 g p) (halfLane 64#32)) (pairScale rows g p)
    (weights_tile X6 rows g p 1 0 _ hr _ (by decide) (by decide) rfl)
    (weights_tile X6 rows g p 1 1 _ hr _ (by decide) (by decide) (by omega))) $$ H
  iintro H
  iapply Hk
  iapply (Part.mono c (S' := Done g (512 * (p + 1))) ?_) $$ H
  intro i hi
  unfold Done at *
  unfold InTile
  omega

/-- A word row's load. -/
theorem wordRow_eq (r : Nat) (hr : r ≤ 1706) : (fun x => X6 ((wordRect r hr).idx x)) = wordRow X6 r := by
  funext j
  have l0 : (j 0).val < 8 := (j 0).isLt
  unfold wordRow
  congr 1
  funext a
  match a with
  | ⟨0, _⟩ => exact Fin.ext (by show r + 3 * (j 0).val = min (r + 3 * (j 0).val) 1727; omega)
  | ⟨1, _⟩ => exact Fin.ext (by show 0 + 1 * (j 1).val = (j 1).val; omega)

variable (arg6 : Memref sig .tc .vmem S1728x128 .i32)

/-- One group: its 16 rows are done. -/
theorem wp_group (E : Set ℕ) (Q : PUnit → sProp 𝕄) (g : Nat) (hg : g < 72) (k : Body F) :
    iprop(Part c arg5 (weights X6 rows) (Done g 0) ∗ owns (c : Thread nD τ) arg6 fullShare X6)
      ⊢ iprop(((Part c arg5 (weights X6 rows) (Done (g + 1) 0) ∗ owns (c : Thread nD τ) arg6 fullShare X6)
          -∗ wp frame (wpE (defs₀ (F := F)) Variants.none c none) E k Q)
        -∗ wp frame (wpE (defs₀ (F := F)) Variants.none c none) E (group arg5 harg5 arg6 rows g hg k) Q) := by
  unfold group
  iintro ⟨H, H6⟩ Hk
  iapply (wp_load_owned c E Q arg6 _ _ X6) $$ H6
  iintro H6
  iapply (wp_load_owned c E Q arg6 _ _ X6) $$ H6
  iintro H6
  iapply (wp_load_owned c E Q arg6 _ _ X6) $$ H6
  iintro H6
  iapply (wp_pair c arg5 harg5 X6 rows E Q g 0 (by omega) (by omega) _ _ (by rw [wordRow_eq, wordRow_eq]; rfl) rfl) $$ H
  iintro H
  iapply (wp_pair c arg5 harg5 X6 rows E Q g 1 (by omega) (by omega) _ _ (by rw [wordRow_eq, wordRow_eq]; rfl) rfl) $$ H
  iintro H
  iapply (wp_pair c arg5 harg5 X6 rows E Q g 2 (by omega) (by omega) _ _ (by rw [wordRow_eq, wordRow_eq]; rfl) rfl) $$ H
  iintro H
  iapply Hk
  isplitl [H]
  · iapply (Part.mono c (S' := Done (g + 1) 0) ?_) $$ H
    intro i hi
    have l1 : (i 1).val < 1536 := (i 1).isLt
    unfold Done at *
    omega
  iexact H6

/-- The first `n` groups. -/
theorem wp_groups (E : Set ℕ) (Q : PUnit → sProp 𝕄) : ∀ (n : Nat) (hn : n ≤ 72) (k : Body F),
    iprop(Part c arg5 (weights X6 rows) (Done 0 0) ∗ owns (c : Thread nD τ) arg6 fullShare X6)
      ⊢ iprop(((Part c arg5 (weights X6 rows) (Done n 0) ∗ owns (c : Thread nD τ) arg6 fullShare X6)
          -∗ wp frame (wpE (defs₀ (F := F)) Variants.none c none) E k Q)
        -∗ wp frame (wpE (defs₀ (F := F)) Variants.none c none) E (groups arg5 harg5 arg6 rows n hn k) Q)
  | 0, hn, k => by
    unfold groups
    iintro H Hk
    iapply Hk $$ H
  | n + 1, hn, k => by
    unfold groups
    iintro H Hk
    iapply (wp_groups E Q n (Nat.le_of_succ_le hn) (group arg5 harg5 arg6 rows n hn k)) $$ H
    iintro H
    iapply (wp_group c arg5 harg5 X6 rows arg6 E Q n hn k) $$ H
    iexact Hk

/-- A store of `w` under a rectangle that covers the memref leaves `Y`, where `w` is `Y` under the rectangle. -/
theorem wp_store_owned (E : Set ℕ) (Q : PUnit → sProp 𝕄) {cs : CoreSpace} {s : Shape} {e : EltTy} (m : Memref sig .tc cs s e) (r : Rect s)
    (w : r.shape.Idx → Elt F e) (hx : (m.access r).Stores Finset.univ) (hm : (Finset.univ : Finset r.shape.Idx) = Finset.univ ∨ ∀ a, r.stride a = 1)
    (X Y : s.Idx → Elt F e) (hY : ∀ x, w x = Y (r.emb x)) (hr : ∀ y, ∃ x, r.emb x = y) (k : PUnit → Body F) :
    owns (c : Thread nD τ) m fullShare X
      ⊢ iprop((owns (c : Thread nD τ) m fullShare Y -∗ wp frame (wpE (defs₀ (F := F)) Variants.none c none) E (k ⟨⟩) Q)
        -∗ wp frame (wpE (defs₀ (F := F)) Variants.none c none) E (Prog.op (.store m r w Finset.univ hx hm) k) Q) := by
  unfold owns
  iintro ⟨%f, %hf, H⟩ Hk
  iapply (wp_store Variants.none (c : Thread nD τ) none E (m := m) (r := r) (w := w) (Mk := Finset.univ) (hx := hx) (hm := hm) (k := k)
    (Q := Q) (f := f) (S := m.view.set) (m.view.set_slice_subset _)) $$ H
  iintro H
  iapply Hk
  iexists _
  isplitr
  swap
  · iexact H
  ipureintro
  funext y
  obtain ⟨x, rfl⟩ := hr y
  exact (View.read_slice_write_emb (v := m.view) r f w (Finset.mem_univ x)).trans (hY x)

/-- The whole rectangle of a rank-2 shape is the identity on indices. -/
theorem emb_whole2 {a b : Nat} (inb : ∀ d, (![0, 0] : Fin 2 → Nat) d + (⟨2, ![a, b]⟩ : Shape).size d ≤ (⟨2, ![a, b]⟩ : Shape).size d)
    (x : (⟨2, ![a, b]⟩ : Shape).Idx) : (Rect.unit (s := ⟨2, ![a, b]⟩) ![0, 0] (⟨2, ![a, b]⟩ : Shape).size inb).emb x = x := by
  funext d
  match d with
  | ⟨0, _⟩ => exact Fin.ext (by show 0 + 1 * (x 0).val = (x 0).val; omega)
  | ⟨1, _⟩ => exact Fin.ext (by show 0 + 1 * (x 1).val = (x 1).val; omega)

/-! ## The two parts of the body -/

/-- The codes, four rows to a row of words. -/
def wordsOf (X1 : Vec F S6912x128 .i8) : Vec F S1728x128 .i32 :=
  shapeCast S1728x128 (bitcast S1728x128 32 (shapeCast S6912x128 X1 shapeCasts_S6912x128_S6912x128) bitcasts_S6912x128_w8_S1728x128_w32) shapeCasts_S1728x128_S1728x128

/-- The `n` scales from scale `o` on. -/
def scaleChunk (X2 : Vec F S864 .f32) (o n : Nat) : Vec F ⟨1, ![n]⟩ .f32 := fun l => X2 (ix1 ⟨min (o + (l 0).val) 863, by omega⟩)

theorem scaleChunk_eq (X2 : Vec F S864 .f32) (o n : Nat) (ho : ∀ a, (![o] : Fin 1 → Nat) a + (⟨1, ![n]⟩ : Shape).size a ≤ S864.size a) :
    (fun x => X2 ((Rect.unit (s := S864) ![o] (⟨1, ![n]⟩ : Shape).size ho).toLoadRect.idx x)) = scaleChunk X2 o n := by
  funext l
  have h : o + n ≤ 864 := ho 0
  have hl : (l 0).val < n := (l 0).isLt
  unfold scaleChunk
  congr 1
  funext a
  match a with
  | ⟨0, _⟩ => exact Fin.ext (by show o + 1 * (l 0).val = min (o + (l 0).val) 863; omega)

/-- The seven rows of scales. -/
def rowsOf (X2 : Vec F S864 .f32) : Nat → FVec F S8x128 .f32 :=
  pickRow (scaleRow (scaleChunk X2 0 128)) (scaleRow (scaleChunk X2 128 128)) (scaleRow (scaleChunk X2 256 128)) (scaleRow (scaleChunk X2 384 128))
    (scaleRow (scaleChunk X2 512 128)) (scaleRow (scaleChunk X2 640 128)) (scaleRow (padScales (scaleChunk X2 768 96)))

/-- The weights of the codes `X1` and the scales `X2`. -/
def weightsOf (X1 : Vec F S6912x128 .i8) (X2 : Vec F S864 .f32) : Vec F S1152x1536 .bf16 := weights (wordsOf X1) (rowsOf X2)

/-- A block's product with the weights. -/
def productOf (X3 : Vec F S1024x1152 .bf16) (W : Vec F S1152x1536 .bf16) : Vec F S1024x1536 .bf16 :=
  truncf .bf16 (matmul dot_S1024x1152_S1152x1536_S1024x1536_1_0_0_1_n_n none (shapeCast S1024x1152 X3 shapeCasts_S1024x1152_S1024x1152) W
    (constant S1024x1536 .f32 0x00000000#32)) bitsLt_bf16_f32

variable (arg1 : Memref sig .tc .vmem S6912x128 .i8) (arg2 : Memref sig .tc .vmem S864 .f32)

/-- The dequantization leaves the weights in the scratch. -/
theorem wp_dequant (E : Set ℕ) (Q : PUnit → sProp 𝕄) (X1 : Vec F S6912x128 .i8) (X2 : Vec F S864 .f32) (k : Body F) :
    iprop(owns (c : Thread nD τ) arg1 fullShare X1 ∗ owns (c : Thread nD τ) arg2 fullShare X2
        ∗ (∃ d, owns (c : Thread nD τ) arg5 fullShare d) ∗ (∃ d, owns (c : Thread nD τ) arg6 fullShare d))
      ⊢ iprop(((owns (c : Thread nD τ) arg1 fullShare X1 ∗ owns (c : Thread nD τ) arg2 fullShare X2
          ∗ owns (c : Thread nD τ) arg5 fullShare (weightsOf X1 X2) ∗ (∃ d, owns (c : Thread nD τ) arg6 fullShare d))
          -∗ wp frame (wpE (defs₀ (F := F)) Variants.none c none) E k Q)
        -∗ wp frame (wpE (defs₀ (F := F)) Variants.none c none) E (dequant arg1 arg2 arg5 harg5 arg6 k) Q) := by
  unfold dequant loadScales
  iintro ⟨H1, H2, ⟨%d5, H5⟩, ⟨%d6, H6⟩⟩ Hk
  iapply (wp_load_owned c E Q arg1 _ _ X1) $$ H1
  iintro H1
  iapply (wp_load_owned c E Q arg6 _ _ d6) $$ H6
  iintro H6
  iapply (wp_store_owned c E Q arg6 _ _ _ _ d6 (wordsOf X1) ?_ ?_) $$ H6
  · intro x
    rw [emb_whole2, show (fun x => X1 ((Rect.unit (s := S6912x128) ![0, 0] S6912x128.size inb_S6912x128_S6912x128_0_0).toLoadRect.idx x)) = X1 from
      funext fun x => congrArg X1 (emb_whole2 inb_S6912x128_S6912x128_0_0 x)]
    rfl
  · exact fun y => ⟨y, emb_whole2 inb_S1728x128_S1728x128_0_0 y⟩
  iintro H6
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  iapply (wp_load_owned c E Q arg2 _ _ X2) $$ H2
  iintro H2
  rw [scaleChunk_eq X2 0 128, scaleChunk_eq X2 128 128, scaleChunk_eq X2 256 128, scaleChunk_eq X2 384 128, scaleChunk_eq X2 512 128,
    scaleChunk_eq X2 640 128, scaleChunk_eq X2 768 96, ← rowsOf]
  iapply (wp_groups c arg5 harg5 (wordsOf X1) (rowsOf X2) arg6 E Q 72 le_rfl k) $$ [H5 H6]
  · isplitl [H5]
    · unfold Part
      iexists d5
      isplitr
      · ipureintro
        intro i hi
        unfold Done at hi
        omega
      iexact H5
    iexact H6
  unfold Part
  iintro ⟨⟨%X, %hX, H5⟩, H6⟩
  have hX' : X = weightsOf X1 X2 := funext fun i => hX i (Or.inl (i 0).isLt)
  subst hX'
  iapply Hk
  isplitl [H1]; · iexact H1
  isplitl [H2]; · iexact H2
  isplitl [H5]; · iexact H5
  iexists _
  iexact H6

variable (arg3 : Memref sig .tc .vmem S1024x1152 .bf16) (arg4 : Memref sig .tc .vmem S1024x1536 .bf16) (harg4 : arg4.IsWhole)

/-- The product leaves the block's product with the scratch. -/
theorem wp_product (E : Set ℕ) (K : PUnit → sProp 𝕄) (X3 : Vec F S1024x1152 .bf16) (W : Vec F S1152x1536 .bf16) :
    iprop(owns (c : Thread nD τ) arg3 fullShare X3 ∗ (∃ d, owns (c : Thread nD τ) arg4 fullShare d) ∗ owns (c : Thread nD τ) arg5 fullShare W)
      ⊢ iprop(((owns (c : Thread nD τ) arg3 fullShare X3 ∗ owns (c : Thread nD τ) arg4 fullShare (productOf X3 W)
          ∗ owns (c : Thread nD τ) arg5 fullShare W) -∗ K ⟨⟩)
        -∗ wp frame (wpE (defs₀ (F := F)) Variants.none c none) E (product arg5 arg3 arg4 harg4) K) := by
  unfold product
  iintro ⟨H3, ⟨%d4, H4⟩, H5⟩ Hk
  iapply (wp_load_owned c E K arg3 _ _ X3) $$ H3
  iintro H3
  iapply (wp_load_owned c E K arg5 _ _ W) $$ H5
  iintro H5
  iapply (wp_load_owned c E K arg4 _ _ d4) $$ H4
  iintro H4
  iapply (wp_store_owned c E K arg4 _ _ _ _ d4 (productOf X3 W) ?_ ?_) $$ H4
  · intro x
    rw [emb_whole2, show (fun x => X3 ((Rect.unit (s := S1024x1152) ![0, 0] S1024x1152.size inb_S1024x1152_S1024x1152_0_0).toLoadRect.idx x)) = X3 from
      funext fun x => congrArg X3 (emb_whole2 inb_S1024x1152_S1024x1152_0_0 x),
      show (fun x => W ((Rect.unit (s := S1152x1536) ![0, 0] S1152x1536.size inb_S1152x1536_S1152x1536_0_0).toLoadRect.idx x)) = W from
      funext fun x => congrArg W (emb_whole2 inb_S1152x1536_S1152x1536_0_0 x)]
    rfl
  · exact fun y => ⟨y, emb_whole2 inb_S1024x1536_S1024x1536_0_0 y⟩
  iintro H4
  rw [wp_ret]; imodintro
  iapply Hk
  isplitl [H3]; · iexact H3
  isplitl [H4]; · iexact H4
  iexact H5

end

end Cert.KernelIdeal.Dequant

end
-- ==== Proof.Body.lean ====
/- The pipeline's proof data, the body's obligation at every grid point, and the run.

   The weights are written into the scratch at the first point and read at every point; the
   invariant carries them from one point to the next. -/
module

public import proofs.«01_k».proof.Proof.StructEq
public import proofs.«01_k».proof.Proof.Run
public import Idealize.ShloMosaic.Lib.Claim

@[expose] public section

set_option maxRecDepth 16384

noncomputable section

namespace Cert.KernelIdeal.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The condition of the body's branch, from the grid coordinates. -/
abbrev first (i : grid0.Coords) : Prop := Scalar.cmpi .ne (Scalar.extui (Scalar.cmpi .eq (BitVec.ofNat 32 (i 0).val) 0#32) : BitVec 32) 0#32 = 1#1

/-- It holds at the first point only. -/
theorem first_iff (t : Fin cfg0.N) : first (grid0.coords t) ↔ t.val % 32 = 0 := by
  have ht : t.val < 32 := Nat.lt_of_lt_of_eq t.isLt N_0
  have e0 : (grid0.coords t 0).val = t.val / 1 % 32 := Pipeline.Grid.coords_val t 0 (by decide) rfl
  simp only [first, e0]
  word_cmp

section
variable (c : Dev nD) (i : grid0.Coords) (arg1 : Memref sig .tc .vmem S6912x128 .i8) (harg1 : arg1.IsWhole) (arg2 : Memref sig .tc .vmem S864 .f32) (harg2 : arg2.IsWhole)
    (arg3 : Memref sig .tc .vmem S1024x1152 .bf16) (harg3 : arg3.IsWhole) (arg4 : Memref sig .tc .vmem S1024x1536 .bf16) (harg4 : arg4.IsWhole)
    (arg5 : Memref sig .tc .vmem S1152x1536 .bf16) (harg5 : arg5.IsWhole) (arg6 : Memref sig .tc .vmem S1728x128 .i32) (harg6 : arg6.IsWhole)

/-- At the first point: the weights are written and the block's product with them is stored. -/
theorem wp_first (E : Set ℕ) (K : PUnit → sProp 𝕄) (hi : first i) (X1 : Vec F S6912x128 .i8) (X2 : Vec F S864 .f32) (X3 : Vec F S1024x1152 .bf16) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d) ∗ (∃ d, owns (c : Thread nD τ) arg6 fullShare d))
      ⊢ iprop(((owns (c : Thread nD τ) arg1 fullShare X1 ∗ owns (c : Thread nD τ) arg2 fullShare X2 ∗ owns (c : Thread nD τ) arg3 fullShare X3
          ∗ owns (c : Thread nD τ) arg4 fullShare (productOf X3 (weightsOf X1 X2)) ∗ owns (c : Thread nD τ) arg5 fullShare (weightsOf X1 X2)
          ∗ (∃ d, owns (c : Thread nD τ) arg6 fullShare d)) -∗ K ⟨⟩)
        -∗ wp frame (wpE (defs₀ (F := F)) Variants.none c none) E (cc0_int4_linear i arg1 harg1 arg2 harg2 arg3 harg3 arg4 harg4 arg5 harg5 arg6 harg6) K) := by
  rw [cc0_eq, dif_pos hi, wp_bind]
  iintro ⟨H1, H2, H3, H4, H5, H6⟩ Hk
  iapply (wp_dequant c arg5 harg5 arg6 arg1 arg2 E _ X1 X2 (pure ⟨⟩)) $$ [H1 H2 H5 H6]
  · isplitl [H1]; · iexact H1
    isplitl [H2]; · iexact H2
    isplitl [H5]; · iexact H5
    iexact H6
  iintro ⟨H1, H2, H5, H6⟩
  rw [wp_pure]; imodintro
  iapply (wp_product c arg5 arg3 arg4 harg4 E K X3 (weightsOf X1 X2)) $$ [H3 H4 H5]
  · isplitl [H3]; · iexact H3
    isplitl [H4]; · iexact H4
    iexact H5
  iintro ⟨H3, H4, H5⟩
  iapply Hk
  isplitl [H1]; · iexact H1
  isplitl [H2]; · iexact H2
  isplitl [H3]; · iexact H3
  isplitl [H4]; · iexact H4
  isplitl [H5]; · iexact H5
  iexact H6

/-- At every other point: the block's product with the scratch is stored. -/
theorem wp_later (E : Set ℕ) (K : PUnit → sProp 𝕄) (hi : ¬ first i) (X3 : Vec F S1024x1152 .bf16) (W : Vec F S1152x1536 .bf16) :
    iprop(owns (c : Thread nD τ) arg3 fullShare X3 ∗ (∃ d, owns (c : Thread nD τ) arg4 fullShare d) ∗ owns (c : Thread nD τ) arg5 fullShare W)
      ⊢ iprop(((owns (c : Thread nD τ) arg3 fullShare X3 ∗ owns (c : Thread nD τ) arg4 fullShare (productOf X3 W)
          ∗ owns (c : Thread nD τ) arg5 fullShare W) -∗ K ⟨⟩)
        -∗ wp frame (wpE (defs₀ (F := F)) Variants.none c none) E (cc0_int4_linear i arg1 harg1 arg2 harg2 arg3 harg3 arg4 harg4 arg5 harg5 arg6 harg6) K) := by
  rw [cc0_eq, dif_neg hi]
  exact wp_product c arg5 arg3 arg4 harg4 E K X3 W

end

/-! ## The pipeline's proof data -/

/-- The grid's first point. -/
abbrev t0 : Fin cfg0.N := ⟨0, lt_of_lt_of_eq (by decide : 0 < 32) N_0.symm⟩

/-- The weights of the arrays the region finds. -/
def wts (c : Dev nD) : Vec F S1152x1536 .bf16 := weightsOf (iblk m c 0 t0) (iblk m c 1 t0)

/-- The two scratch operands. -/
abbrev scW : Memref sig .tc .vmem S1152x1536 .bf16 := Memref.whole cc0_scratch0
abbrev scX : Memref sig .tc .vmem S1728x128 .i32 := Memref.whole cc0_scratch1

/-- The invariant after the first point: the scratch holds the weights. -/
def Kept (c : Dev nD) : sProp 𝕄 :=
  iprop(iprop(owns (c : Thread nD τ) scW fullShare (wts m c) ∗ (∃ d, owns (c : Thread nD τ) scX fullShare d)) ∗ (∃ r, prngReg c r))

/-- The class's invariant, the scratch operands as memrefs owned at some contents. -/
theorem PhiA_eq (c : Dev nD) :
    (Pipeline.ΦA spec0 c : sProp 𝕄)
      = iprop(iprop((∃ d, owns (c : Thread nD τ) scW fullShare d) ∗ (∃ d, owns (c : Thread nD τ) scX fullShare d)) ∗ (∃ r, prngReg c r)) := by
  unfold Pipeline.ΦA; rw [scopedRest0_eq]; simp only [scW, scX, owns_whole]; rfl

/-- The arrays as the region finds them; after the body at a point each input's buffer at its block, the output's
    at the block's product with the weights; the scratch at anything before the first point and at the weights after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => productOf (iblk m c 2 t) (wts m c)
  Φ t := if t.val = 0 then Pipeline.ΦA spec0 c else Kept m c
  q _ := fullShare
  owed _ := 0

theorem A_eq (c : Dev nD) (w : Fin cfg0.W) : (dats m 0 c).A w = V m c (Pipeline.arrRef spec0 w) := by
  dsimp only [dats]

/-- The invariant before the first point and after it. -/
theorem Phi_zero (c : Dev nD) (t : Fin (cfg0.N + 1)) (h : t.val = 0) : (dats m 0 c).Φ t = Pipeline.ΦA spec0 c := by
  dsimp only [dats]; exact if_pos h
theorem Phi_pos (c : Dev nD) (t : Fin (cfg0.N + 1)) (h : t.val ≠ 0) : (dats m 0 c).Φ t = Kept m c := by
  dsimp only [dats]; exact if_neg h

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = productOf (iblk m c 2 t) (wts m c) := by dsimp only [dats]

/-- Each input's staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [Phi_pos m c t.succ (Nat.succ_ne_zero t.val),
    show (dats m 0 c).owesAt () t.succ = (dats m 0 c).owesAt () t.castSucc from rfl,
    after_0, after_1, after_2, after_3]
  have hN : t.val < 32 := lt_of_lt_of_eq t.isLt (show cfg0.N = 32 from N_0)
  by_cases h0 : t.val = 0
  · obtain rfl : t = t0 := Fin.ext h0
    rw [Phi_zero m c t0.castSucc rfl, PhiA_eq]
    unfold Kept wts
    iintro ⟨⟨⟨HS0, HS1⟩, Hg⟩, Ho, ⟨%d0, H0⟩, ⟨%d1, H1⟩, ⟨%d2, H2⟩, ⟨%d3, H3⟩⟩
    iapply (wp_first c (grid0.coords t0) _ _ _ _ _ _ _ _ _ _ _ _ Set.univ _ ((first_iff t0).mpr rfl) (iblk m c 0 t0) (iblk m c 1 t0) (iblk m c 2 t0)) $$ [H0 H1 H2 H3 HS0 HS1]
    · isplitl [H0]; · iexact H0
      isplitl [H1]; · iexact H1
      isplitl [H2]; · iexact H2
      isplitl [H3]; · iexists _; iexact H3
      isplitl [HS0]; · iexact HS0
      iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3
  · rw [Phi_pos m c t.castSucc h0]
    unfold Kept
    iintro ⟨⟨⟨HS0, HS1⟩, Hg⟩, Ho, ⟨%d0, H0⟩, ⟨%d1, H1⟩, ⟨%d2, H2⟩, ⟨%d3, H3⟩⟩
    iapply (wp_later c (grid0.coords t) _ _ _ _ _ _ _ _ _ _ _ _ Set.univ _ (fun h => h0 (by have := (first_iff t).mp h; omega)) (iblk m c 2 t) (wts m c)) $$ [H2 H3 HS0]
    · isplitl [H2]; · iexact H2
      isplitl [H3]; · iexists _; iexact H3
      iexact HS0
    iintro ⟨H2, H3, HS0⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The weights forgotten, the invariant is the class's. -/
theorem kept_forget (c : Dev nD) : Kept m c ⊢ (Pipeline.ΦA spec0 c : sProp 𝕄) := by
  rw [PhiA_eq]
  unfold Kept
  iintro ⟨⟨HS0, HS1⟩, Hg⟩
  isplitl [HS0 HS1]
  · isplitl [HS0]
    · iexists _; iexact HS0
    iexact HS1
  iexact Hg

/-- Every weakly fair execution of `main` terminates with the arrays as the proof data says and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last _) (by rw [Fin.val_last]; exact ne_of_eq_of_ne N_0 (by decide))]
      exact kept_forget m c)
    (Q' := fun r => Pipeline.FramePost cfgs (dats m) 0 (V m) r ∧ r.2.sem = fun _ => 0)
    (hQ' := fun _ h => h)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Dequant

end
-- ==== Proof.Dense.lean ====
/- What both programs compute: the product of the activations with the dequantized weights. -/
module

public import Idealize.ShloMosaic.PureOps.Ideal
public import Idealize.ShloMosaic.Lib.ValueIdxCore

@[expose] public section

noncomputable section

namespace Cert.Int4

open Idealize.ShloMosaic
open Idealize.ShloMosaic.ValueIdx (ix1 ix2 ix3)

/-- Weight (k, n): nibble `n % 2` of code byte `768 k + n / 2`, read in two's complement, times the scale of the byte's
    block of 1024. -/
def weight (C : (⟨1, ![884736]⟩ : Shape).Idx → BitVec 8) (S : (⟨1, ![864]⟩ : Shape).Idx → EReal) (k : Fin 1152) (n : Fin 1536) : EReal :=
  ((((C (ix1 ⟨768 * k.val + n.val / 2, by have := k.isLt; have := n.isLt; omega⟩)).extractLsb' (4 * (n.val % 2)) 4).toInt : ℝ) : EReal)
    * S (ix1 ⟨(768 * k.val + n.val / 2) / 1024, by have := k.isLt; have := n.isLt; omega⟩)

/-- The product: row `r` of the result is row `r % 4096` of batch `r / 4096` times the weights. -/
def dense (x : (⟨3, ![8, 4096, 1152]⟩ : Shape).Idx → EReal) (C : (⟨1, ![884736]⟩ : Shape).Idx → BitVec 8) (S : (⟨1, ![864]⟩ : Shape).Idx → EReal) :
    (⟨2, ![32768, 1536]⟩ : Shape).Idx → EReal := fun i =>
  ∑ k : Fin 1152, x (ix3 ⟨(i 0).val / 4096, by have : (i 0).val < 32768 := (i 0).isLt; omega⟩ ⟨(i 0).val % 4096, Nat.mod_lt _ (by decide)⟩ k)
    * weight C S k (i 1)

/-- A weight, its byte and its block named. -/
theorem weight_apply (C : (⟨1, ![884736]⟩ : Shape).Idx → BitVec 8) (S : (⟨1, ![864]⟩ : Shape).Idx → EReal) (k : Fin 1152) (n : Fin 1536)
    (f : Fin 884736) (b : Fin 864) (q : Nat) (hf : f.val = 768 * k.val + n.val / 2) (hb : b.val = f.val / 1024) (hq : q = n.val % 2) :
    weight C S k n = ((((C (ix1 f)).extractLsb' (4 * q) 4).toInt : ℝ) : EReal) * S (ix1 b) := by
  subst hq
  obtain ⟨f, hf'⟩ := f
  obtain ⟨b, hb'⟩ := b
  dsimp only at hf hb
  subst hf hb
  rfl

/-- The product at an index. -/
theorem dense_apply (x : (⟨3, ![8, 4096, 1152]⟩ : Shape).Idx → EReal) (C : (⟨1, ![884736]⟩ : Shape).Idx → BitVec 8)
    (S : (⟨1, ![864]⟩ : Shape).Idx → EReal) (i : Fin 32768) (n : Fin 1536) (a : Fin 8) (t : Fin 4096) (ha : a.val = i.val / 4096) (ht : t.val = i.val % 4096) :
    dense x C S (ix2 i n) = ∑ k : Fin 1152, x (ix3 a t k) * weight C S k n := by
  obtain ⟨a, ha'⟩ := a
  obtain ⟨t, ht'⟩ := t
  dsimp only at ha ht
  subst ha ht
  rfl

end Cert.Int4

end
-- ==== Proof.Nibble.lean ====
/- The facts about words, bytes and nibbles that the weights rest on. -/
module

public import Idealize.ShloMosaic.Lib.IdealHost

@[expose] public section

noncomputable section

namespace Cert.KernelIdeal.Dequant

open Idealize.ShloMosaic

/-! ## Bits of words -/

/-- Low halves joined: bits 0 … 15 are the first word's, bits 16 … 31 the second's. -/
theorem joinLow_getLsbD (a b : BitVec 32) (q : Nat) (hq : q < 32) :
    ((a &&& 65535#32) ||| (b &&& 4294901760#32)).getLsbD q = if q < 16 then a.getLsbD q else b.getLsbD q := by
  rw [BitVec.getLsbD_or, BitVec.getLsbD_and, BitVec.getLsbD_and]
  interval_cases q <;> simp

/-- High halves joined: bits 0 … 15 are the first word's bits 16 … 31, bits 16 … 31 the second's bits 0 … 15. -/
theorem joinHigh_getLsbD (a b : BitVec 32) (q : Nat) (hq : q < 32) :
    ((a >>> 16#32) ||| (b <<< 16#32)).getLsbD q = if q < 16 then a.getLsbD (16 + q) else b.getLsbD (q - 16) := by
  rw [BitVec.getLsbD_or]
  interval_cases q <;> simp

/-- The float's bits in half `e` of the masked word: the biased nibble at offset `16 e + 8 o + 4 q`. -/
theorem biased_bits (x : BitVec 32) (e o q : Nat) (he : e < 2) (ho : o < 2) (hq : q < 2) :
    ((((x ^^^ 2290649224#32) >>> (8 * o + 4 * q)) &&& 983055#32) ||| 1124090624#32).extractLsb' (16 * e) 16
      = 0x4300#16 ||| ((x.extractLsb' (16 * e + 8 * o + 4 * q) 4) ^^^ 8#4).setWidth 16 := by
  apply BitVec.eq_of_getLsbD_eq
  intro i hi
  interval_cases e <;> interval_cases o <;> interval_cases q <;> interval_cases i <;> simp

/-! ## Values -/

/-- The bf16 float with exponent 134 and fraction `u` is `128 + u`. -/
theorem biased_float (u : BitVec 4) : Ideal.ofBits .bf16 (0x4300#16 ||| u.setWidth 16) = (((128 + u.toNat : ℕ) : ℝ) : EReal) := by
  have hn : ∀ n : Fin 16, ((0x4300#16 ||| (BitVec.ofFin n : BitVec 4).setWidth 16).extractLsb' (8 + 7) 1 == 1#1) = false := by decide
  have he : ∀ n : Fin 16, ((0x4300#16 ||| (BitVec.ofFin n : BitVec 4).setWidth 16).extractLsb' 7 8).toNat = 134 := by decide
  have hf : ∀ n : Fin 16, ((0x4300#16 ||| (BitVec.ofFin n : BitVec 4).setWidth 16).extractLsb' 0 7).toNat = n.val := by decide
  show Ideal.ieee 8 7 (0x4300#16 ||| u.setWidth 16) = _
  unfold Ideal.ieee
  dsimp only
  rw [hn u.toFin, he u.toFin, hf u.toFin]
  rw [if_neg (by decide), if_neg (by decide)]
  congr 1
  norm_num

/-- The biased float of a nibble, less the bias, is the nibble read in two's complement. -/
theorem biased_value (v : BitVec 4) :
    Ideal.ofBits .bf16 (0x4300#16 ||| (v ^^^ 8#4).setWidth 16) - Ideal.ofBits .bf16 0x4308#16 = ((v.toInt : ℝ) : EReal) := by
  have h8 : Ideal.ofBits .bf16 0x4308#16 = (((128 + 8 : ℕ) : ℝ) : EReal) := biased_float 8#4
  have hv : ∀ n : Fin 16, (BitVec.ofFin n : BitVec 4).toInt = (((BitVec.ofFin n : BitVec 4) ^^^ 8#4).toNat : ℤ) - 8 := by decide
  rw [biased_float, h8, ← EReal.coe_sub, hv v.toFin]
  congr 1
  push_cast
  ring

/-- A byte's low nibble in two's complement, as the reference computes it. -/
theorem low_value (b : BitVec 8) :
    (IntOp.subi (IntOp.andi (b.setWidth 32) 15#32)
      (IntOp.muli 16#32 ((IntOp.cmpi .sge (IntOp.andi (b.setWidth 32) 15#32) 8#32).setWidth 32))).toInt = (b.extractLsb' 0 4).toInt := by
  have h : ∀ n : Fin 256, (IntOp.subi (IntOp.andi ((BitVec.ofFin n : BitVec 8).setWidth 32) 15#32)
      (IntOp.muli 16#32 ((IntOp.cmpi .sge (IntOp.andi ((BitVec.ofFin n : BitVec 8).setWidth 32) 15#32) 8#32).setWidth 32))).toInt
      = ((BitVec.ofFin n : BitVec 8).extractLsb' 0 4).toInt := by decide +kernel
  exact h b.toFin

/-- A byte's high nibble in two's complement, as the reference computes it. -/
theorem high_value (b : BitVec 8) :
    (IntOp.subi (IntOp.shrsi .host (b.setWidth 32) 4#32)
      (IntOp.muli 16#32 ((IntOp.cmpi .sge (IntOp.shrsi .host (b.setWidth 32) 4#32) 8#32).setWidth 32))).toInt = (b.extractLsb' 4 4).toInt := by
  have h : ∀ n : Fin 256, (IntOp.subi (IntOp.shrsi .host ((BitVec.ofFin n : BitVec 8).setWidth 32) 4#32)
      (IntOp.muli 16#32 ((IntOp.cmpi .sge (IntOp.shrsi .host ((BitVec.ofFin n : BitVec 8).setWidth 32) 4#32) 8#32).setWidth 32))).toInt
      = ((BitVec.ofFin n : BitVec 8).extractLsb' 4 4).toInt := by decide +kernel
  exact h b.toFin

end Cert.KernelIdeal.Dequant

end
-- ==== Proof.Weights.lean ====
/- The weights over the extended reals, element by element: weight (k, n) is the code's nibble
   in two's complement times its block's scale. -/
module

public import proofs.«01_k».proof.Proof.Run
public import proofs.«01_k».proof.Proof.Nibble
public import Idealize.ShloMosaic.Lib.BitcastFour
public import Idealize.ShloMosaic.Lib.Pointwise.ShapeOpsCore
public import Idealize.ShloMosaic.Lib.ValueLayout

@[expose] public section

set_option maxRecDepth 16384

noncomputable section

namespace Cert.KernelIdeal.Dequant

open Idealize.ShloMosaic hiding ix1 ix2
open Cert.KernelIdeal Cert.KernelIdeal.Gen
open Idealize.ShloMosaic.ValueIdx (ix2 ix1 eq_ix2 eq_ix1 idx2_lt0 idx2_lt1)

/-! ## The words' bits -/

/-- Bit `q` of a word is a bit of the code byte in row `q / 8` of the word's four. -/
theorem wordsOf_getLsbD (X1 : Vec Ideal S6912x128 .i8) (a : Fin 1728) (l : Fin 128) (q : Nat) (hq : q < 32) (p : Fin 6912)
    (hp : p.val = 4 * a.val + q / 8) :
    BitVec.getLsbD (w := 32) (wordsOf X1 (ix2 a l)) q = BitVec.getLsbD (w := 8) (X1 (ix2 p l)) (q % 8) := by
  unfold wordsOf
  rw [shapeCast_self, shapeCast_self]
  exact bitcast_8_32_getLsbD_ix2 X1 _ a l q hq p hp

/-- Bit `q` of a row of words. -/
theorem wordRow_getLsbD (X1 : Vec Ideal S6912x128 .i8) (r : Nat) (s : Fin 8) (l : Fin 128) (hr : r + 3 * s.val ≤ 1727) (q : Nat) (hq : q < 32)
    (p : Fin 6912) (hp : p.val = 4 * (r + 3 * s.val) + q / 8) :
    BitVec.getLsbD (w := 32) (wordRow (wordsOf X1) r (ix2 s l)) q = BitVec.getLsbD (w := 8) (X1 (ix2 p l)) (q % 8) := by
  unfold wordRow
  refine wordsOf_getLsbD X1 _ l q hq p ?_
  show p.val = 4 * (min (r + 3 * s.val) 1727) + q / 8
  omega

/-- Bit `q` of a pair's word: the code bytes of side `q / 8 % 2` of the row of parity `q / 16`. -/
theorem pairWord_getLsbD (X1 : Vec Ideal S6912x128 .i8) (g p : Nat) (hg : g < 72) (hp : p < 3) (s : Fin 8) (l : Fin 128) (q : Nat) (hq : q < 32)
    (a : Fin 6912) (ha : a.val = 96 * g + 12 * s.val + 6 * (q / 16) + 2 * p + q / 8 % 2) :
    BitVec.getLsbD (w := 32) (pairWord (wordsOf X1) g p (ix2 s l)) q = BitVec.getLsbD (w := 8) (X1 (ix2 a l)) (q % 8) := by
  have hs := s.isLt
  have hp' : p = 0 ∨ p = 1 ∨ p = 2 := by omega
  rcases hp' with rfl | rfl | rfl
  · refine (joinLow_getLsbD (wordRow (wordsOf X1) (24 * g) (ix2 s l)) (wordRow (wordsOf X1) (24 * g + 1) (ix2 s l)) q hq).trans ?_
    split
    · exact wordRow_getLsbD X1 _ s l (by omega) q hq a (by omega)
    · exact wordRow_getLsbD X1 _ s l (by omega) q hq a (by omega)
  · refine (joinHigh_getLsbD (wordRow (wordsOf X1) (24 * g) (ix2 s l)) (wordRow (wordsOf X1) (24 * g + 2) (ix2 s l)) q hq).trans ?_
    split
    · rw [wordRow_getLsbD X1 _ s l (by omega) (16 + q) (by omega) a (by omega), show (16 + q) % 8 = q % 8 by omega]
    · rw [wordRow_getLsbD X1 _ s l (by omega) (q - 16) (by omega) a (by omega), show (q - 16) % 8 = q % 8 by omega]
  · refine (joinLow_getLsbD (wordRow (wordsOf X1) (24 * g + 1) (ix2 s l)) (wordRow (wordsOf X1) (24 * g + 2) (ix2 s l)) q hq).trans ?_
    split
    · exact wordRow_getLsbD X1 _ s l (by omega) q hq a (by omega)
    · exact wordRow_getLsbD X1 _ s l (by omega) q hq a (by omega)

/-- The four bits at offset `16 e + 8 o + 4 q` of a pair's word are nibble `q` of a code byte. -/
theorem pairWord_nibble (X1 : Vec Ideal S6912x128 .i8) (g p : Nat) (hg : g < 72) (hp : p < 3) (s : Fin 8) (l : Fin 128) (e o q : Nat)
    (he : e < 2) (ho : o < 2) (hq : q < 2) (a : Fin 6912) (ha : a.val = 96 * g + 12 * s.val + 6 * e + 2 * p + o) :
    BitVec.extractLsb' (n := 32) (16 * e + 8 * o + 4 * q) 4 (pairWord (wordsOf X1) g p (ix2 s l))
      = BitVec.extractLsb' (n := 8) (4 * q) 4 (X1 (ix2 a l)) := by
  apply BitVec.eq_of_getLsbD_eq
  intro i hi
  rw [BitVec.getLsbD_extractLsb', BitVec.getLsbD_extractLsb', pairWord_getLsbD X1 g p hg hp s l _ (by omega) a (by omega),
    show (16 * e + 8 * o + 4 * q + i) % 8 = 4 * q + i by omega]

/-! ## The gathers -/

/-- A gather along the lanes reads the lane its index names. -/
theorem gather_ix2 {α : Type} (x : S8x128.Idx → α) (v : IVec S8x128 32) (s : Fin 8) (l k : Fin 128) (hv : v (ix2 s l) = BitVec.ofNat 32 k.val) :
    dynamicGather 1 x (gatherIdx v) (ix2 s l) = x (ix2 s k) := by
  have h : ∀ k : Fin 128, Scalar.select (IntOp.cmpi .slt (BitVec.ofNat 32 k.val) 0#32) (IntOp.addi (BitVec.ofNat 32 k.val) 128#32) (BitVec.ofNat 32 k.val)
      = BitVec.ofNat 32 k.val := by decide
  have hi : gatherIdx v (ix2 s l) = BitVec.ofNat 32 k.val := by
    unfold gatherIdx
    rw [shapeCast_shapeCast]
    show Scalar.select (IntOp.cmpi .slt (v (ix2 s l)) 0#32) (IntOp.addi (v (ix2 s l)) 128#32) (v (ix2 s l)) = _
    rw [hv, h k]
  unfold dynamicGather
  congr 1
  funext b
  match b with
  | ⟨0, _⟩ => rfl
  | ⟨1, _⟩ =>
    refine Fin.ext ?_
    show (gatherIdx v (ix2 s l)).toNat % 128 = k.val
    rw [hi, BitVec.toNat_ofNat]
    have := k.isLt
    omega

/-- The lane number and the sublane number at an index. -/
theorem lanes_apply (s : Fin 8) (l : Fin 128) : lanes (ix2 s l) = BitVec.ofNat 32 l.val := by
  show BitVec.ofNat 32 (0 * 128 + l.val) = _
  rw [Nat.zero_mul, Nat.zero_add]
theorem sublanes_apply (s : Fin 8) (l : Fin 128) : sublanes (ix2 s l) = BitVec.ofNat 32 s.val := by
  show BitVec.ofNat 32 (0 * 8 + s.val) = _
  rw [Nat.zero_mul, Nat.zero_add]

/-- The lane that holds the code of lane `l` in half `h`. -/
theorem halfLane_apply (h : Nat) (hh : h < 2) (s : Fin 8) (l : Fin 128) :
    halfLane (BitVec.ofNat 32 (64 * h)) (ix2 s l) = BitVec.ofNat 32 (l.val / 2 + 64 * h) := by
  have e : ∀ l : Fin 128, ∀ h : Fin 2, IntOp.addi (IntOp.shrsi .vector (BitVec.ofNat 32 l.val) 1#32) (BitVec.ofNat 32 (64 * h.val))
      = BitVec.ofNat 32 (l.val / 2 + 64 * h.val) := by decide
  show IntOp.addi (IntOp.shrsi .vector (lanes (ix2 s l)) 1#32) (BitVec.ofNat 32 (64 * h)) = _
  rw [lanes_apply]
  exact e l ⟨h, hh⟩

/-- The nibble shift of lane `l`. -/
theorem nibbleShift_apply (s : Fin 8) (l : Fin 128) : nibbleShift (ix2 s l) = BitVec.ofNat 32 (4 * (l.val % 2)) := by
  have e : ∀ l : Fin 128, IntOp.muli (IntOp.andi (BitVec.ofNat 32 l.val) 1#32) 4#32 = BitVec.ofNat 32 (4 * (l.val % 2)) := by decide
  show IntOp.muli (IntOp.andi (lanes (ix2 s l)) 1#32) 4#32 = _
  rw [lanes_apply]
  exact e l

/-- A word shifted by less than its width. -/
theorem shrui_ofNat (x : BitVec 32) (n : Nat) (hn : n < 32) : IntOp.shrui .vector x (BitVec.ofNat 32 n) = x >>> n := by
  have h : (BitVec.ofNat 32 n).toNat = n := by rw [BitVec.toNat_ofNat]; omega
  unfold IntOp.shrui
  rw [h, if_pos hn, BitVec.ushiftRight_eq', h]

/-- A half's nibbles at an index. -/
theorem halfNibbles_apply (w : IVec S8x128 32) (h : Nat) (hh : h < 2) (s : Fin 8) (l k : Fin 128) (hk : k.val = l.val / 2 + 64 * h) :
    halfNibbles w h (ix2 s l) = (w (ix2 s k) ^^^ 2290649224#32) >>> (4 * (l.val % 2)) := by
  have e : halfNibbles w h = nibbles w (halfLane (BitVec.ofNat 32 (64 * h))) := by
    have h' : h = 0 ∨ h = 1 := by omega
    rcases h' with rfl | rfl <;> rfl
  rw [e]
  have hg := gather_ix2 (xori w (broadcast S8x128 2290649224#32)) (halfLane (BitVec.ofNat 32 (64 * h))) s l k (by rw [halfLane_apply h hh, hk])
  show IntOp.shrui .vector (dynamicGather 1 (xori w (broadcast S8x128 2290649224#32)) (gatherIdx (halfLane (BitVec.ofNat 32 (64 * h)))) (ix2 s l))
    (nibbleShift (ix2 s l)) = _
  rw [hg, nibbleShift_apply, shrui_ofNat _ _ (by omega)]
  rfl

/-! ## The scales -/

/-- The row of scales `v`, at lane `k`. -/
theorem scaleRow_apply (v : Vec Ideal S128 .f32) (s : Fin 8) (k : Fin 128) : scaleRow v (ix2 s k) = v (ix1 k) := by
  unfold scaleRow
  rw [shapeCast_self]
  show broadcastTo S8x128 (shapeCast S1x128 v shapeCasts_S128_S1x128) broadcasts_S1x128_S8x128 (ix2 s k) = _
  rw [broadcastTo_apply _ _ (ix2 s k) (ix2 (0 : Fin 1) k) (by
    intro a
    match a with
    | ⟨0, _⟩ => rfl
    | ⟨1, _⟩ => rfl)]
  exact ValueIdx.shapeCast_a_1a_apply v _ 0 k

/-- The last scales, padded, below lane 96. -/
theorem padScales_apply (v : Vec Ideal S96 .f32) (k : Fin 128) (i : Fin 96) (h : i.val = k.val) : padScales v (ix1 k) = v (ix1 i) := by
  unfold padScales
  exact concatenate_pair_apply_left (t := S128) (s₁ := S96) (s₂ := S32) 0 _ _ _ (ix1 k) rfl (ix1 i) (by
    intro b
    match b with
    | ⟨0, _⟩ => exact h)

/-- A row of scales at a lane: scale `128 n + k`. -/
theorem rowsOf_apply (X2 : Vec Ideal S864 .f32) (n : Nat) (s : Fin 8) (k : Fin 128) (b : Fin 864) (hb : b.val = 128 * n + k.val) :
    rowsOf X2 n (ix2 s k) = X2 (ix1 b) := by
  have hn : n = 0 ∨ n = 1 ∨ n = 2 ∨ n = 3 ∨ n = 4 ∨ n = 5 ∨ n = 6 := by have := b.isLt; omega
  have hbl := b.isLt
  have hk := k.isLt
  rcases hn with rfl | rfl | rfl | rfl | rfl | rfl | rfl
  all_goals
    first
    | (refine (scaleRow_apply _ s k).trans (congrArg X2 (congrArg ix1 (Fin.ext ?_)))
       refine Eq.trans ?_ hb.symm
       first
       | exact (show min (0 + k.val) 863 = 128 * 0 + k.val by omega)
       | exact (show min (128 + k.val) 863 = 128 * 1 + k.val by omega)
       | exact (show min (256 + k.val) 863 = 128 * 2 + k.val by omega)
       | exact (show min (384 + k.val) 863 = 128 * 3 + k.val by omega)
       | exact (show min (512 + k.val) 863 = 128 * 4 + k.val by omega)
       | exact (show min (640 + k.val) 863 = 128 * 5 + k.val by omega))
    | (refine (scaleRow_apply _ s k).trans ?_
       refine (padScales_apply _ k ⟨k.val, by omega⟩ rfl).trans (congrArg X2 (congrArg ix1 (Fin.ext ?_)))
       show min (768 + k.val) 863 = b.val
       omega)

/-- The row group `g` gathers from, at the lane of its `j`-th scale: scale `12 g + j`. -/
theorem groupRow_apply (X2 : Vec Ideal S864 .f32) (g j : Nat) (hg : g < 72) (hj : j < 12) (s : Fin 8) (k : Fin 128) (hk : k.val = (12 * g + j) % 128)
    (b : Fin 864) (hb : b.val = 12 * g + j) : groupRow (rowsOf X2) g (ix2 s k) = X2 (ix1 b) := by
  unfold groupRow
  cases hc : Nat.beq (12 * g / 128) ((12 * g + 11) / 128) with
  | true =>
    have h := Nat.eq_of_beq_eq_true hc
    exact rowsOf_apply X2 _ s k b (by omega)
  | false =>
    have h := Nat.ne_of_beq_eq_false hc
    have hl : ∀ k : Fin 128, IntOp.cmpi .slt (BitVec.ofNat 32 k.val) 64#32 = if k.val < 64 then 1#1 else 0#1 := by decide
    show Scalar.select (IntOp.cmpi .slt (lanes (ix2 s k)) 64#32) (rowsOf X2 ((12 * g + 11) / 128) (ix2 s k)) (rowsOf X2 (12 * g / 128) (ix2 s k)) = _
    rw [lanes_apply, hl k]
    by_cases h64 : k.val < 64
    · rw [if_pos h64, ValueIdx.select_one]
      exact rowsOf_apply X2 _ s k b (by omega)
    · rw [if_neg h64, ValueIdx.select_zero]
      exact rowsOf_apply X2 _ s k b (by omega)

/-- The scales of a group in a pattern: scale `12 g + j` where the pattern is `j`. -/
theorem groupScale_apply (X2 : Vec Ideal S864 .f32) (g j : Nat) (hg : g < 72) (hj : j < 12) (pat : IVec S8x128 32) (s : Fin 8) (l : Fin 128)
    (hpat : pat (ix2 s l) = BitVec.ofNat 32 j) (b : Fin 864) (hb : b.val = 12 * g + j) : groupScale (rowsOf X2) g pat (ix2 s l) = X2 (ix1 b) := by
  unfold groupScale
  rw [gather_ix2 _ _ s l ⟨(12 * g + j) % 128, Nat.mod_lt _ (by decide)⟩ (by
    show IntOp.andi (IntOp.addi (pat (ix2 s l)) (BitVec.ofNat 32 (12 * g))) 127#32 = BitVec.ofNat 32 ((12 * g + j) % 128)
    rw [hpat]
    apply BitVec.eq_of_toNat_eq
    show ((BitVec.ofNat 32 j + BitVec.ofNat 32 (12 * g)) &&& 127#32).toNat = _
    rw [BitVec.toNat_and, BitVec.toNat_add, BitVec.toNat_ofNat, BitVec.toNat_ofNat, BitVec.toNat_ofNat, BitVec.toNat_ofNat]
    rw [show (127 : Nat) % 2 ^ 32 = 2 ^ 7 - 1 by decide, Nat.and_two_pow_sub_one_eq_mod]
    omega)]
  exact groupRow_apply X2 g j hg hj s _ rfl b hb

/-- The patterns at sublane `s`. -/
theorem patA_apply (s : Fin 8) (l : Fin 128) : patA (ix2 s l) = BitVec.ofNat 32 (3 * s.val / 2) := by
  have e : ∀ s : Fin 8, IntOp.shrsi .vector (IntOp.muli 3#32 (BitVec.ofNat 32 s.val)) 1#32 = BitVec.ofNat 32 (3 * s.val / 2) := by decide
  show IntOp.shrsi .vector (IntOp.muli 3#32 (sublanes (ix2 s l))) 1#32 = _
  rw [sublanes_apply]
  exact e s
theorem patB_apply (s : Fin 8) (l : Fin 128) : patB (ix2 s l) = BitVec.ofNat 32 ((3 * s.val + 1) / 2) := by
  have e : ∀ s : Fin 8, IntOp.shrsi .vector (IntOp.addi (IntOp.muli 3#32 (BitVec.ofNat 32 s.val)) 1#32) 1#32 = BitVec.ofNat 32 ((3 * s.val + 1) / 2) := by decide
  show IntOp.shrsi .vector (IntOp.addi (IntOp.muli 3#32 (sublanes (ix2 s l))) 1#32) 1#32 = _
  rw [sublanes_apply]
  exact e s
theorem patC_apply (s : Fin 8) (l : Fin 128) : patC (ix2 s l) = BitVec.ofNat 32 (3 * s.val / 2 + 1) := by
  have e : ∀ s : Fin 8, IntOp.addi (IntOp.shrsi .vector (IntOp.muli 3#32 (BitVec.ofNat 32 s.val)) 1#32) 1#32 = BitVec.ofNat 32 (3 * s.val / 2 + 1) := by decide
  show IntOp.addi (IntOp.shrsi .vector (IntOp.muli 3#32 (sublanes (ix2 s l))) 1#32) 1#32 = _
  rw [sublanes_apply]
  exact e s

/-- Packed scales at a row: the first pattern's on the even rows, the second's on the odd ones. -/
theorem packScale_apply (a b : FVec Ideal S8x128 .f32) (s : Fin 8) (e : Nat) (he : e < 2) (r : Fin 16) (hr : r.val = 2 * s.val + e) (l : Fin 128) :
    packScale a b (ix2 r l) = if e = 0 then a (ix2 s l) else b (ix2 s l) := by
  unfold packScale
  rw [interleaveRows_apply]
  have hrow : S16x128.row (ix2 r l) = r.val := rfl
  rw [hrow]
  have hidx : ∀ j : S8x128.Idx, (j 0).val = r.val / 2 → (j 1).val = l.val → j = ix2 s l := by
    intro j h0 h1
    funext d
    match d with
    | ⟨0, _⟩ => exact Fin.ext (by show (j 0).val = s.val; omega)
    | ⟨1, _⟩ => exact Fin.ext h1
  by_cases h0 : e = 0
  · rw [if_pos h0, if_pos (by omega)]
    exact congrArg a (hidx _ rfl rfl)
  · rw [if_neg h0, if_neg (by omega)]
    exact congrArg b (hidx _ rfl rfl)

/-- The scale of row `2 s + e` in pair `p` of group `g`. -/
theorem pairScale_apply (X2 : Vec Ideal S864 .f32) (g p : Nat) (hg : g < 72) (hp : p < 3) (s : Fin 8) (e : Nat) (he : e < 2) (r : Fin 16)
    (hr : r.val = 2 * s.val + e) (l : Fin 128) (b : Fin 864) (hb : b.val = 12 * g + (6 * s.val + 3 * e + p) / 4) :
    pairScale (rowsOf X2) g p (ix2 r l) = X2 (ix1 b) := by
  have hs := s.isLt
  have A : ∀ b : Fin 864, b.val = 12 * g + 3 * s.val / 2 → groupScale (rowsOf X2) g patA (ix2 s l) = X2 (ix1 b) :=
    fun b hb => groupScale_apply X2 g _ hg (by omega) patA s l (patA_apply s l) b hb
  have B : ∀ b : Fin 864, b.val = 12 * g + (3 * s.val + 1) / 2 → groupScale (rowsOf X2) g patB (ix2 s l) = X2 (ix1 b) :=
    fun b hb => groupScale_apply X2 g _ hg (by omega) patB s l (patB_apply s l) b hb
  have C : ∀ b : Fin 864, b.val = 12 * g + (3 * s.val / 2 + 1) → groupScale (rowsOf X2) g patC (ix2 s l) = X2 (ix1 b) :=
    fun b hb => groupScale_apply X2 g _ hg (by omega) patC s l (patC_apply s l) b hb
  have hp' : p = 0 ∨ p = 1 ∨ p = 2 := by omega
  have he' : e = 0 ∨ e = 1 := by omega
  rcases hp' with rfl | rfl | rfl
  · refine (packScale_apply (groupScale (rowsOf X2) g patA) (groupScale (rowsOf X2) g patB) s e he r hr l).trans ?_
    rcases he' with rfl | rfl
    · exact A b (by omega)
    · exact B b (by omega)
  · refine (packScale_apply (groupScale (rowsOf X2) g patA) (groupScale (rowsOf X2) g patC) s e he r hr l).trans ?_
    rcases he' with rfl | rfl
    · exact A b (by omega)
    · exact C b (by omega)
  · refine (packScale_apply (groupScale (rowsOf X2) g patB) (groupScale (rowsOf X2) g patC) s e he r hr l).trans ?_
    rcases he' with rfl | rfl
    · exact B b (by omega)
    · exact C b (by omega)

/-! ## The tiles and the weights -/

/-- A tile at a row: the nibble in the row's half of the word, times the scale. -/
theorem tile_apply (n : IVec S8x128 32) (scale : FVec Ideal S16x128 .bf16) (s : Fin 8) (e : Nat) (he : e < 2) (r : Fin 16) (hr : r.val = 2 * s.val + e)
    (l : Fin 128) :
    tile n scale (ix2 r l)
      = (Ideal.ofBits .bf16 (((n (ix2 s l) &&& 983055#32) ||| 1124090624#32).extractLsb' (16 * e) 16) - Ideal.ofBits .bf16 0x4308#16) * scale (ix2 r l) := by
  unfold tile
  rw [shapeCast_self]
  show (Ideal.ofBits .bf16 (bitcast S16x128 16 (ori (andi n (broadcast S8x128 983055#32)) (broadcast S8x128 1124090624#32)) bitcasts_S8x128_w32_S16x128_w16 (ix2 r l))
    - Ideal.ofBits .bf16 0x4308#16) * scale (ix2 r l) = _
  rw [bitcast_32_16]
  have hrow : S16x128.row (ix2 r l) = r.val := rfl
  have hidx : ∀ j : S8x128.Idx, (j 0).val = r.val / 2 → (j 1).val = l.val → j = ix2 s l := by
    intro j h0 h1
    funext d
    match d with
    | ⟨0, _⟩ => exact Fin.ext (by show (j 0).val = s.val; omega)
    | ⟨1, _⟩ => exact Fin.ext h1
  have hsrc : ∀ h, Shape.Bitcasts.srcIdx bitcasts_S8x128_w32_S16x128_w16 (ix2 r l) (S16x128.row (ix2 r l) / 2) h = ix2 s l := fun h => hidx _ rfl rfl
  rw [hsrc, hrow, show r.val % 2 = e by omega]
  rfl

/-- The tile of side `o` at an index. -/
theorem sideTile_apply (n : IVec S8x128 32) (scale : FVec Ideal S16x128 .bf16) (o : Nat) (ho : o < 2) (s : Fin 8) (e : Nat) (he : e < 2) (r : Fin 16)
    (hr : r.val = 2 * s.val + e) (l : Fin 128) :
    sideTile n scale o (ix2 r l)
      = (Ideal.ofBits .bf16 ((((n (ix2 s l) >>> (8 * o)) &&& 983055#32) ||| 1124090624#32).extractLsb' (16 * e) 16) - Ideal.ofBits .bf16 0x4308#16)
        * scale (ix2 r l) := by
  have ho' : o = 0 ∨ o = 1 := by omega
  rcases ho' with rfl | rfl
  · refine (tile_apply n scale s e he r hr l).trans ?_
    rw [show 8 * 0 = 0 from rfl, BitVec.ushiftRight_zero]
  · refine (tile_apply (shrui n (broadcast S8x128 8#32)) scale s e he r hr l).trans ?_
    rw [show shrui n (broadcast S8x128 8#32) (ix2 s l) = n (ix2 s l) >>> (8 * 1) from shrui_ofNat _ 8 (by decide)]

/-- Weight (k, n): nibble `n % 2` of code byte `768 k + n / 2` in two's complement, times the scale of the byte's block of 1024. -/
theorem weightsOf_apply (X1 : Vec Ideal S6912x128 .i8) (X2 : Vec Ideal S864 .f32) (k : Fin 1152) (n : Fin 1536) (a : Fin 6912) (l : Fin 128) (b : Fin 864)
    (ha : a.val = 6 * k.val + n.val / 256) (hl : l.val = n.val % 256 / 2) (hb : b.val = (768 * k.val + n.val / 2) / 1024) :
    weightsOf X1 X2 (ix2 k n) = (((BitVec.extractLsb' (n := 8) (4 * (n.val % 2)) 4 (X1 (ix2 a l))).toInt : ℝ) : EReal) * X2 (ix1 b) := by
  have hk := k.isLt
  have hn := n.isLt
  unfold weightsOf weights
  show tileAt (wordsOf X1) (rowsOf X2) (k.val / 16) (n.val / 512) (n.val / 128 % 2) (n.val / 256 % 2)
    (ix2 ⟨k.val % 16, Nat.mod_lt _ (by decide)⟩ ⟨n.val % 128, Nat.mod_lt _ (by decide)⟩) = _
  unfold tileAt
  have hs : k.val % 16 / 2 < 8 := by omega
  have hf : 768 * k.val + n.val / 2 = 1024 * (12 * (k.val / 16)) + (256 * (6 * (k.val % 16 / 2) + 3 * (k.val % 2) + n.val / 512) + n.val / 2 % 256) := by omega
  rw [sideTile_apply _ _ (n.val / 256 % 2) (by omega) ⟨k.val % 16 / 2, hs⟩ (k.val % 2) (by omega) ⟨k.val % 16, Nat.mod_lt _ (by decide)⟩
      (by show k.val % 16 = 2 * (k.val % 16 / 2) + k.val % 2; omega),
    halfNibbles_apply _ (n.val / 128 % 2) (by omega) ⟨k.val % 16 / 2, hs⟩ ⟨n.val % 128, Nat.mod_lt _ (by decide)⟩ l
      (by show l.val = n.val % 128 / 2 + 64 * (n.val / 128 % 2); omega),
    pairScale_apply X2 (k.val / 16) (n.val / 512) (by omega) (by omega) ⟨k.val % 16 / 2, hs⟩ (k.val % 2) (by omega) ⟨k.val % 16, Nat.mod_lt _ (by decide)⟩
      (by show k.val % 16 = 2 * (k.val % 16 / 2) + k.val % 2; omega) _ b
      (by show b.val = 12 * (k.val / 16) + (6 * (k.val % 16 / 2) + 3 * (k.val % 2) + n.val / 512) / 4; omega)]
  congr 1
  show Ideal.ofBits .bf16 (((((pairWord (wordsOf X1) (k.val / 16) (n.val / 512) (ix2 ⟨k.val % 16 / 2, hs⟩ l) ^^^ 2290649224#32) >>> (4 * (n.val % 128 % 2)))
    >>> (8 * (n.val / 256 % 2))) &&& 983055#32 ||| 1124090624#32).extractLsb' (16 * (k.val % 2)) 16) - Ideal.ofBits .bf16 0x4308#16 = _
  rw [← BitVec.shiftRight_add, show 4 * (n.val % 128 % 2) + 8 * (n.val / 256 % 2) = 8 * (n.val / 256 % 2) + 4 * (n.val % 2) by omega,
    biased_bits _ _ _ _ (by omega) (by omega) (by omega), biased_value,
    pairWord_nibble X1 (k.val / 16) (n.val / 512) (by omega) (by omega) ⟨k.val % 16 / 2, hs⟩ l (k.val % 2) (n.val / 256 % 2) (n.val % 2)
      (by omega) (by omega) (by omega) a
      (by show a.val = 96 * (k.val / 16) + 12 * (k.val % 16 / 2) + 6 * (k.val % 2) + 2 * (n.val / 512) + n.val / 256 % 2; omega)]

end Cert.KernelIdeal.Dequant

end
-- ==== Proof.KernelValue.lean ====
/- The kernel's result over the extended reals: the product of the activations with the dequantized weights. -/
module

public import proofs.«01_k».proof.Proof.Dense
public import proofs.«01_k».proof.Proof.Weights
public import proofs.«01_k».proof.Proof.Body
public import Idealize.ShloMosaic.Lib.Pipeline.ValueKit
public import Idealize.ShloMosaic.Lib.MatmulPlain

@[expose] public section

set_option maxRecDepth 16384

noncomputable section

namespace Cert.KernelIdeal.Dequant

open Idealize.ShloMosaic hiding ix1 ix2 ix3 eq_ix2
open Idealize.ShloMosaic.TcCoe
open Idealize.SL.Sem
open Cert.KernelIdeal Cert.KernelIdeal.Gen
open Idealize.ShloMosaic.ValueIdx (ix1 ix2 ix3 eq_ix2)

/-! ## The block's product -/

/-- The block's product with the weights, at an index. -/
theorem productOf_apply (X3 : Vec Ideal S1024x1152 .bf16) (W : Vec Ideal S1152x1536 .bf16) (r : Fin 1024) (n : Fin 1536) :
    productOf X3 W (ix2 r n) = (∑ k : Fin 1152, X3 (ix2 r k) * W (ix2 k n) : EReal) := by
  unfold productOf
  rw [shapeCast_self]
  show FloatOps.matmul (F := Ideal) (φ₁ := .bf16) (φ₂ := .bf16) (DotDims.plain 1024 1152 1536) none X3 W (constant S1024x1536 .f32 0x00000000#32) (ix2 r n) = (_ : EReal)
  refine (Ideal.matmul_plain_apply none X3 W _ r n).trans ?_
  rw [show constant (F := Ideal) S1024x1536 .f32 0x00000000#32 (ix2 r n) = (0 : EReal) from Ideal.ofBits_zero_f32]
  exact zero_add _

/-! ## The windows' blocks -/

variable (m : (ℓ : Loc nD τ sig) → Buf (Elt Ideal) ℓ) (c : Dev nD)

/-- The windows' block indices at a point. -/
theorem idx0 : ∀ t : Fin cfg0.N, win0_0.index t = ![0, 0] := (by decide +kernel : ∀ t : Fin grid0.N, _)
theorem idx1 : ∀ t : Fin cfg0.N, win0_1.index t = ![0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The reshaped codes and activations the region finds. -/
theorem V_codes : V m c main_v0 = shapeCast S6912x128 (m ((c.tc : Thread nD τ).loc main_arg1)) shapeCasts_S884736_S6912x128 := by
  unfold V
  after_results_simp <;> rfl
theorem V_x : V m c main_v1 = shapeCast S32768x1152 (m ((c.tc : Thread nD τ).loc main_arg0)) shapeCasts_S8x4096x1152_S32768x1152 := by
  unfold V
  after_results_simp <;> rfl

/-- The codes' block: code byte `128 a + l` at row `a`, lane `l`. -/
theorem codes_apply (t : Fin cfg0.N) (a : Fin 6912) (l : Fin 128) (f : Fin 884736) (hf : f.val = 128 * a.val + l.val) :
    iblk m c 0 t (ix2 a l) = m ((c.tc : Thread nD τ).loc main_arg1) (ix1 f) := by
  blk_simp [iblk]
  have e : (win0_0.blk t).view.emb (ix2 a l) = ix2 a l := by
    funext d
    match d with
    | ⟨0, _⟩ => exact Fin.ext (by blk_simp [idx0 t])
    | ⟨1, _⟩ => exact Fin.ext (by blk_simp [idx0 t])
  rw [e, V_codes]
  exact shapeCast_apply _ _ (ix2 a l) (ix1 f) (by
    rw [Shape.rowMajor_val_two, Shape.rowMajor_val_one]
    show f.val = a.val * 128 + l.val
    omega)

/-- The scales' block is the scales. -/
theorem scales_apply (t : Fin cfg0.N) (b : Fin 864) :
    iblk m c 1 t (ix1 b) = m ((c.tc : Thread nD τ).loc main_arg2) (ix1 b) := by
  blk_simp [iblk]
  have e : (win0_1.blk t).view.emb (ix1 b) = ix1 b := by
    funext d
    match d with
    | ⟨0, _⟩ => exact Fin.ext (by blk_simp [idx1 t])
  rw [e, V_main_arg2]

/-- The activations' block at point `t`: row `r` is row `1024 t + r` of the flattened activations. -/
theorem x_apply (t : Fin cfg0.N) (r : Fin 1024) (k : Fin 1152) (a : Fin 8) (s : Fin 4096) (h : a.val * 4096 + s.val = 1024 * t.val + r.val) :
    iblk m c 2 t (ix2 r k) = m ((c.tc : Thread nD τ).loc main_arg0) (ix3 a s k) := by
  blk_simp [iblk]
  have ht : t.val < 32 := Nat.lt_of_lt_of_eq t.isLt N_0
  have hr := r.isLt
  have e : (win0_2.blk t).view.emb (ix2 r k) = ix2 (⟨1024 * t.val + r.val, by omega⟩ : Fin 32768) k := by
    funext d
    match d with
    | ⟨0, _⟩ => exact Fin.ext (by blk_simp [idx2 t]; show t.val * 1024 + r.val = 1024 * t.val + r.val; omega)
    | ⟨1, _⟩ => exact Fin.ext (by blk_simp [idx2 t])
  rw [e, V_x]
  exact shapeCast_apply _ _ (ix2 (⟨1024 * t.val + r.val, by omega⟩ : Fin 32768) k) (ix3 a s k) (by
    rw [Shape.rowMajor_val_three, Shape.rowMajor_val_two]
    show (a.val * 4096 + s.val) * 1152 + k.val = (1024 * t.val + r.val) * 1152 + k.val
    rw [h])

/-! ## The result array -/

/-- The weights in the scratch are the dequantized weights. -/
theorem wts_apply (k : Fin 1152) (n : Fin 1536) :
    wts m c (ix2 k n) = Cert.Int4.weight (m ((c.tc : Thread nD τ).loc main_arg1)) (m ((c.tc : Thread nD τ).loc main_arg2)) k n := by
  have hk := k.isLt
  have hn := n.isLt
  unfold wts
  rw [weightsOf_apply (iblk m c 0 t0) (iblk m c 1 t0) k n ⟨6 * k.val + n.val / 256, by omega⟩ ⟨n.val % 256 / 2, by omega⟩
    ⟨(768 * k.val + n.val / 2) / 1024, by omega⟩ rfl rfl rfl]
  rw [Cert.Int4.weight_apply _ _ k n ⟨768 * k.val + n.val / 2, by omega⟩ ⟨(768 * k.val + n.val / 2) / 1024, by omega⟩ (n.val % 2) rfl rfl rfl]
  rw [codes_apply m c t0 _ _ ⟨768 * k.val + n.val / 2, by omega⟩ (by show 768 * k.val + n.val / 2 = 128 * (6 * k.val + n.val / 256) + n.val % 256 / 2; omega),
    scales_apply m c t0]

/-- The result array after the run. -/
theorem final : (dats m 0 c).arrAt 3 cfg0.N
    = Cert.Int4.dense (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after_3]
  obtain ⟨r, n, rfl⟩ : ∃ (r : Fin 1024) (n : Fin 1536), y = ix2 r n := ⟨y 0, y 1, eq_ix2 y⟩
  have ht : t.val < 32 := Nat.lt_of_lt_of_eq t.isLt N_0
  have hr := r.isLt
  have e : (win0_3.blk t).view.emb (ix2 r n) = ix2 (⟨1024 * t.val + r.val, by omega⟩ : Fin 32768) n := by
    funext d
    match d with
    | ⟨0, _⟩ => exact Fin.ext (by blk_simp [idx3 t]; show t.val * 1024 + r.val = 1024 * t.val + r.val; omega)
    | ⟨1, _⟩ => exact Fin.ext (by blk_simp [idx3 t])
  rw [e]
  refine (productOf_apply (iblk m c 2 t) (wts m c) r n).trans ?_
  refine Eq.trans ?_ (Cert.Int4.dense_apply _ _ _ (⟨1024 * t.val + r.val, by omega⟩ : Fin 32768) n
    ⟨(1024 * t.val + r.val) / 4096, by omega⟩ ⟨(1024 * t.val + r.val) % 4096, Nat.mod_lt _ (by decide)⟩ rfl rfl).symm
  refine Finset.sum_congr rfl fun k _ => ?_
  rw [wts_apply m c k n, x_apply m c t r k ⟨(1024 * t.val + r.val) / 4096, by omega⟩ ⟨(1024 * t.val + r.val) % 4096, Nat.mod_lt _ (by decide)⟩
    (by show (1024 * t.val + r.val) / 4096 * 4096 + (1024 * t.val + r.val) % 4096 = 1024 * t.val + r.val; omega)]

end Cert.KernelIdeal.Dequant

end
-- ==== Proof.ReferenceValue.lean ====
/- The reference's result over the extended reals: the product of the activations with the dequantized weights. -/
module

public import proofs.«01_k».proof.Proof.Dense
public import proofs.«01_k».proof.Proof.Nibble
public import proofs.«01_k».proof.Proof.Gen.ReferenceIdeal.Run
public import Idealize.ShloMosaic.Lib.Pipeline.Value
public import Idealize.ShloMosaic.Lib.Pointwise.Contract

@[expose] public section

set_option maxRecDepth 16384

noncomputable section

namespace Cert.ReferenceIdeal.Int4

open Idealize.ShloMosaic hiding ix1 ix2 ix3 ix4 eq_ix2
open Cert.ReferenceIdeal Cert.ReferenceIdeal.Gen
open Idealize.ShloMosaic.ValueIdx (ix1 ix2 ix3 ix4 eq_ix2)

/-- The codes times their blocks' scales, one weight matrix of the two. -/
def matrix (q : FVec Ideal S884736 .bf16) (S : FVec Ideal S864 .f32) : FVec Ideal S1152x768 .bf16 :=
  shapeCast _ (mulf (shapeCast _ q shapeCasts_S884736_S864x1024)
    (broadcastInDim S864x1024 ![0, 1] bcast_S864x1_S864x1024_0_1 (broadcastInDim S864x1 ![0] bcast_S864_S864x1_0 (truncf .bf16 S bitsLt_bf16_f32))))
    shapeCasts_S864x1024_S1152x768

/-- An element of the matrix: code `768 k + c` times the scale of its block. -/
theorem matrix_apply (q : FVec Ideal S884736 .bf16) (S : FVec Ideal S864 .f32) (k : Fin 1152) (c : Fin 768) (f : Fin 884736) (b : Fin 864)
    (hf : f.val = 768 * k.val + c.val) (hb : b.val = f.val / 1024) : matrix q S (ix2 k c) = (q (ix1 f) * S (ix1 b) : EReal) := by
  unfold matrix
  rw [shapeCast_apply _ _ (ix2 k c) (ix2 b (⟨f.val % 1024, Nat.mod_lt _ (by decide)⟩ : Fin 1024)) (by
    rw [Shape.rowMajor_val_two, Shape.rowMajor_val_two]
    show b.val * 1024 + f.val % 1024 = k.val * 768 + c.val
    omega)]
  show shapeCast S864x1024 q _ (ix2 b (⟨f.val % 1024, Nat.mod_lt _ (by decide)⟩ : Fin 1024))
    * broadcastInDim S864x1024 ![0, 1] bcast_S864x1_S864x1024_0_1 (broadcastInDim S864x1 ![0] bcast_S864_S864x1_0 (truncf .bf16 S bitsLt_bf16_f32))
      (ix2 b (⟨f.val % 1024, Nat.mod_lt _ (by decide)⟩ : Fin 1024)) = (_ : EReal)
  rw [shapeCast_apply q _ _ (ix1 f) (by
    rw [Shape.rowMajor_val_two, Shape.rowMajor_val_one]
    show f.val = b.val * 1024 + f.val % 1024
    omega)]
  rw [broadcastInDim_apply _ _ _ _ (ix2 b (0 : Fin 1)) (by
    intro a
    match a with
    | ⟨0, _⟩ => rfl
    | ⟨1, _⟩ => rfl)]
  rw [broadcastInDim_apply _ _ _ _ (ix1 b) (by
    intro a
    match a with
    | ⟨0, _⟩ => rfl)]
  rfl

/-- The product with one matrix, at an index. -/
theorem product_apply (x : FVec Ideal S8x4096x1152 .bf16) (w : FVec Ideal S1152x768 .bf16) (a : Fin 8) (t : Fin 4096) (c : Fin 768) :
    Host.dotGeneral dot_S8x4096x1152_S1152x768_S8x4096x768_2_0_01_1_n_n none x w (ix3 a t c) = (∑ k : Fin 1152, x (ix3 a t k) * w (ix2 k c) : EReal) := by
  refine (Ideal.matmul_apply₁_of (d := dot_S8x4096x1152_S1152x768_S8x4096x768_2_0_01_1_n_n) (a := 2) rfl (K := 1152) rfl x w (fun _ => 0) (ix3 a t c)
    (fun k => ix3 a t k) (fun k => ix2 k c) ?_ ?_).trans (zero_add _)
  · intro k
    funext d
    match d with
    | ⟨0, _⟩ => rfl
    | ⟨1, _⟩ => rfl
    | ⟨2, _⟩ => rfl
  · intro k
    funext d
    match d with
    | ⟨0, _⟩ => rfl
    | ⟨1, _⟩ => rfl

/-- The two products stacked on a new last axis and flattened: the even columns from the first, the odd ones from the second. -/
def flat (x : FVec Ideal S8x4096x1152 .bf16) (w0 w1 : FVec Ideal S1152x768 .bf16) : FVec Ideal S32768x1536 .f32 :=
  shapeCast _ (concatenate S8x4096x768x2 3
    [⟨S8x4096x768x1, (broadcastInDim S8x4096x768x1 ![0, 1, 2] bcast_S8x4096x768_S8x4096x768x1_0_1_2 (Host.dotGeneral dot_S8x4096x1152_S1152x768_S8x4096x768_2_0_01_1_n_n none x w0))⟩,
     ⟨S8x4096x768x1, (broadcastInDim S8x4096x768x1 ![0, 1, 2] bcast_S8x4096x768_S8x4096x768x1_0_1_2 (Host.dotGeneral dot_S8x4096x1152_S1152x768_S8x4096x768_2_0_01_1_n_n none x w1))⟩]
    concatenates_S8x4096x768x1_S8x4096x768x1_S8x4096x768x2_d3) shapeCasts_S8x4096x768x2_S32768x1536
/-- The same, rounded. -/
def stacked (x : FVec Ideal S8x4096x1152 .bf16) (w0 w1 : FVec Ideal S1152x768 .bf16) : FVec Ideal S32768x1536 .bf16 :=
  truncf .bf16 (flat x w0 w1) bitsLt_bf16_f32

/-- An element of the stacked products. -/
theorem stacked_apply (x : FVec Ideal S8x4096x1152 .bf16) (w0 w1 : FVec Ideal S1152x768 .bf16) (i : Fin 32768) (n : Fin 1536)
    (a : Fin 8) (t : Fin 4096) (c : Fin 768) (p : Fin 2) (ha : a.val = i.val / 4096) (ht : t.val = i.val % 4096) (hc : c.val = n.val / 2) (hp : p.val = n.val % 2) :
    stacked x w0 w1 (ix2 i n) = (∑ k : Fin 1152, x (ix3 a t k) * (if p.val = 0 then w0 else w1) (ix2 k c) : EReal) := by
  have hb : ∀ (v : FVec Ideal S8x4096x768 .f32) (u : Fin 1),
      broadcastInDim S8x4096x768x1 ![0, 1, 2] bcast_S8x4096x768_S8x4096x768x1_0_1_2 v (ix4 a t c u) = v (ix3 a t c) := by
    intro v u
    refine broadcastInDim_apply _ _ _ _ (ix3 a t c) ?_
    intro d
    match d with
    | ⟨0, _⟩ => rfl
    | ⟨1, _⟩ => rfl
    | ⟨2, _⟩ => rfl
  show flat x w0 w1 (ix2 i n) = _
  unfold flat
  refine (shapeCast_apply _ shapeCasts_S8x4096x768x2_S32768x1536 (ix2 i n) (ix4 a t c p) (by
    rw [Shape.rowMajor_val_four, Shape.rowMajor_val_two]
    show ((a.val * 4096 + t.val) * 768 + c.val) * 2 + p.val = i.val * 1536 + n.val
    omega)).trans ?_
  by_cases h0 : p.val = 0
  · rw [if_pos h0]
    refine (concatenate_pair_apply_left (t := S8x4096x768x2) (s₁ := S8x4096x768x1) (s₂ := S8x4096x768x1) 3 _ _ _ (ix4 a t c p) rfl (ix4 a t c (0 : Fin 1)) (by
      intro d
      match d with
      | ⟨0, _⟩ => rfl
      | ⟨1, _⟩ => rfl
      | ⟨2, _⟩ => rfl
      | ⟨3, _⟩ => exact h0.symm)).trans ?_
    exact (hb _ 0).trans (product_apply x w0 a t c)
  · rw [if_neg h0]
    have h1 : p.val = 1 := by have := p.isLt; omega
    refine (concatenate_pair_apply_right (t := S8x4096x768x2) (s₁ := S8x4096x768x1) (s₂ := S8x4096x768x1) 3 _ _ _ (ix4 a t c p) rfl rfl (ix4 a t c (0 : Fin 1)) (by
      intro d hd
      match d with
      | ⟨0, _⟩ => rfl
      | ⟨1, _⟩ => rfl
      | ⟨2, _⟩ => rfl
      | ⟨3, _⟩ => exact absurd rfl hd) (by show 0 + 1 = p.val; omega)).trans ?_
    exact (hb _ 0).trans (product_apply x w1 a t c)

/-- The codes less sixteen where eight or more, as floats. -/
def signed (u : IVec S884736 32) : FVec Ideal S884736 .bf16 :=
  sitofp .bf16 (subi u (muli (broadcastInDim S884736 ![] bcast_S_S884736 (constantI S_ 32 16#32))
    (extui 32 (cmpi .sge u (broadcastInDim S884736 ![] bcast_S_S884736 (constantI S_ 32 8#32))) natLt_1_32)))

/-- The low and the high nibbles of the bytes. -/
def lowCodes (C : IVec S884736 8) : IVec S884736 32 :=
  andi (extui 32 C natLt_8_32) (broadcastInDim S884736 ![] bcast_S_S884736 (constantI S_ 32 15#32))
def highCodes (C : IVec S884736 8) : IVec S884736 32 :=
  Host.shrsi (extui 32 C natLt_8_32) (broadcastInDim S884736 ![] bcast_S_S884736 (constantI S_ 32 4#32))

theorem signed_low (C : IVec S884736 8) (j : S884736.Idx) : signed (lowCodes C) j = ((((C j).extractLsb' (4 * 0) 4).toInt : ℝ) : EReal) := by
  rw [← Cert.KernelIdeal.Dequant.low_value (C j)]
  rfl

theorem signed_high (C : IVec S884736 8) (j : S884736.Idx) : signed (highCodes C) j = ((((C j).extractLsb' (4 * 1) 4).toInt : ℝ) : EReal) := by
  rw [← Cert.KernelIdeal.Dequant.high_value (C j)]
  rfl

/-- The reference's result is the product with the dequantized weights. -/
theorem stacked_eq (x : FVec Ideal S8x4096x1152 .bf16) (C : IVec S884736 8) (S : FVec Ideal S864 .f32) :
    stacked x (matrix (signed (lowCodes C)) S) (matrix (signed (highCodes C)) S) = Cert.Int4.dense x C S := by
  funext j
  obtain ⟨i, n, rfl⟩ : ∃ (i : Fin 32768) (n : Fin 1536), j = ix2 i n := ⟨j 0, j 1, eq_ix2 j⟩
  have hi := i.isLt
  have hn := n.isLt
  refine (stacked_apply x _ _ i n ⟨i.val / 4096, by omega⟩ ⟨i.val % 4096, Nat.mod_lt _ (by decide)⟩ ⟨n.val / 2, by omega⟩
    ⟨n.val % 2, Nat.mod_lt _ (by decide)⟩ rfl rfl rfl rfl).trans ?_
  refine Eq.trans ?_ (Cert.Int4.dense_apply x C S i n ⟨i.val / 4096, by omega⟩ ⟨i.val % 4096, Nat.mod_lt _ (by decide)⟩ rfl rfl).symm
  refine Finset.sum_congr rfl fun k _ => congrArg (x _ * ·) ?_
  have hk := k.isLt
  have hf : 768 * k.val + n.val / 2 < 884736 := by omega
  have hb : (768 * k.val + n.val / 2) / 1024 < 864 := by omega
  by_cases h0 : n.val % 2 = 0
  · rw [if_pos h0]
    refine (matrix_apply _ S k _ ⟨768 * k.val + n.val / 2, hf⟩ ⟨_, hb⟩ rfl rfl).trans ?_
    rw [signed_low]
    exact (Cert.Int4.weight_apply C S k n ⟨768 * k.val + n.val / 2, hf⟩ ⟨_, hb⟩ 0 rfl rfl h0.symm).symm
  · rw [if_neg h0]
    refine (matrix_apply _ S k _ ⟨768 * k.val + n.val / 2, hf⟩ ⟨_, hb⟩ rfl rfl).trans ?_
    rw [signed_high]
    exact (Cert.Int4.weight_apply C S k n ⟨768 * k.val + n.val / 2, hf⟩ ⟨_, hb⟩ 1 rfl rfl (by omega)).symm

end Cert.ReferenceIdeal.Int4

end
-- ==== Proof.Algebraic.lean ====
/- Over the extended reals the kernel and the reference end with the same result. -/
module

public import proofs.«01_k».proof.Defs
public import proofs.«01_k».proof.Proof.KernelValue
public import proofs.«01_k».proof.Proof.ReferenceValue

@[expose] public section

set_option maxRecDepth 16384

noncomputable section

namespace Cert.KernelIdeal.Dequant

open Idealize.ShloMosaic Idealize.ShloMosaic.TcCoe Idealize.SL.Sem
open Cert.KernelIdeal Cert.KernelIdeal.Gen

/-- The kernel ends with the product of the activations and the dequantized weights, its arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2)
        = Cert.Int4.dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hv : θ_run defs (onTc (τ := τ) (main (F := Ideal))) ⟨m, fun _ => 0, ρ⟩ (fun r => ∀ c : Dev nD,
      r.2.mem ((c.tc : Thread nD τ).loc main_v2)
        = Cert.Int4.dense (m ((c.tc : Thread nD τ).loc main_arg0)) (m ((c.tc : Thread nD τ).loc main_arg1)) (m ((c.tc : Thread nD τ).loc main_arg2))) :=
    (θ_run defs _ _).mono (fun r h c => ((h.1 c).1 3).trans (final m c)) (run_main m ρ)
  exact (θ_run defs _ _).mono (fun r h c => ⟨h.1 c, h.2.1 c⟩) (θ_run_and hv (frame m ρ))

end Cert.KernelIdeal.Dequant

namespace Cert.ReferenceIdeal.Int4

open Idealize.ShloMosaic Idealize.ShloMosaic.TcCoe Idealize.SL.Sem
open Cert.ReferenceIdeal Cert.ReferenceIdeal.Gen

/-- The reference ends with the same product, its arguments unchanged. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36)
        = Cert.Int4.dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans
      (stacked_eq (m ((c.tc : Thread nD τ).loc main_arg0)) (m ((c.tc : Thread nD τ).loc main_arg1)) (m ((c.tc : Thread nD τ).loc main_arg2))), (h c).2⟩)
    (Cert.ReferenceIdeal.Value.run (F := Ideal) m ρ)

end Cert.ReferenceIdeal.Int4

namespace Cert.Int4

open Idealize.ShloMosaic Idealize.ShloMosaic.TcCoe Idealize.SL.Sem

/-- From equal arguments the two results are equal. -/
theorem algebraic : Cert.algebraic_KernelIdeal_ReferenceIdeal := by
  intro m g m' g' _ hargs
  refine ⟨fun c => dense (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), Cert.KernelIdeal.Dequant.value m g, ?_⟩
  refine (θ_run Cert.ReferenceIdeal.defs _ _).mono (fun r h c => ⟨(h c).1.trans ?_, (h c).2⟩) (Cert.ReferenceIdeal.Int4.value m' g')
  obtain ⟨h0, h1, h2⟩ := hargs c
  rw [h0, h1, h2]

end Cert.Int4

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsBody
public import proofs.«01_k».proof.Proof.Body
public import proofs.«01_k».proof.Proof.Algebraic
public import Idealize.ShloMosaic.Lib.Quiescent
public import Idealize.ShloMosaic.Lib.Bf16Pair

@[expose] public section

noncomputable section

namespace Cert.Proof

open Idealize.ShloMosaic Idealize.SL.Sem

/-- The certificate. -/
theorem claim : Cert.Claim := ⟨Cert.Kernel.Gen.facts, Cert.KernelIdeal.Gen.facts, Cert.ReferenceIdeal.Gen.facts,
  fun m ρ _ => Cert.Kernel.Dequant.frame m ρ,
  fun m ρ _ => Cert.KernelIdeal.Dequant.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  ⟨IdealRules.bf16_pair.statement _ _, IdealRules.bf16_pack.statement _⟩,
  Cert.Int4.algebraic⟩

end Cert.Proof

end
